-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x3584 : Shape := ⟨3, ![128, 1, 3584]⟩
abbrev S38016x1792 : Shape := ⟨2, ![38016, 1792]⟩
abbrev S38016x112 : Shape := ⟨2, ![38016, 112]⟩
abbrev S128x3584 : Shape := ⟨2, ![128, 3584]⟩
abbrev S112x38016 : Shape := ⟨2, ![112, 38016]⟩
abbrev S1x128 : Shape := ⟨2, ![1, 128]⟩
abbrev S512x1792 : Shape := ⟨2, ![512, 1792]⟩
abbrev S112x512 : Shape := ⟨2, ![112, 512]⟩
abbrev S128x128 : Shape := ⟨2, ![128, 128]⟩
abbrev S128x256 : Shape := ⟨2, ![128, 256]⟩
abbrev S256x128 : Shape := ⟨2, ![256, 128]⟩
abbrev S128x1x256 : Shape := ⟨3, ![128, 1, 256]⟩
abbrev S128x2x256 : Shape := ⟨3, ![128, 2, 256]⟩
abbrev S256x256 : Shape := ⟨2, ![256, 256]⟩
abbrev S1x256 : Shape := ⟨2, ![1, 256]⟩
abbrev S32x256 : Shape := ⟨2, ![32, 256]⟩
abbrev S128 : Shape := ⟨1, ![128]⟩
abbrev S128x1 : Shape := ⟨2, ![128, 1]⟩

abbrev nBuf : Space → Nat
  | .hbm => 11
  | .vmem => 11
  | .smem => 0
  | _ => 0

abbrev bufTy : (tb : Table) → Fin (tcTables nBuf tb) → BufTy
  | .hbm, ⟨0, _⟩ => ⟨S128x1x3584, .bf16⟩
  | .hbm, ⟨1, _⟩ => ⟨S38016x1792, .i8⟩
  | .hbm, ⟨2, _⟩ => ⟨S38016x112, .bf16⟩
  | .hbm, ⟨3, _⟩ => ⟨S128x3584, .bf16⟩
  | .hbm, ⟨4, _⟩ => ⟨S112x38016, .bf16⟩
  | .hbm, ⟨5, _⟩ => ⟨S1x128, .i32⟩
  | .hbm, ⟨6, _⟩ => ⟨S1x128, .f32⟩
  | .hbm, ⟨7, _⟩ => ⟨S1x128, .f32⟩
  | .hbm, ⟨8, _⟩ => ⟨S128x1, .i32⟩
  | .hbm, ⟨9, _⟩ => ⟨S128x1, .f32⟩
  | .hbm, ⟨10, _⟩ => ⟨S128x1, .f32⟩
  | .local _ .vmem, ⟨0, _⟩ => ⟨S128x3584, .bf16⟩
  | .local _ .vmem, ⟨1, _⟩ => ⟨S512x1792, .i8⟩
  | .local _ .vmem, ⟨2, _⟩ => ⟨S512x1792, .i8⟩
  | .local _ .vmem, ⟨3, _⟩ => ⟨S112x512, .bf16⟩
  | .local _ .vmem, ⟨4, _⟩ => ⟨S112x512, .bf16⟩
  | .local _ .vmem, ⟨5, _⟩ => ⟨S1x128, .i32⟩
  | .local _ .vmem, ⟨6, _⟩ => ⟨S1x128, .f32⟩
  | .local _ .vmem, ⟨7, _⟩ => ⟨S1x128, .f32⟩
  | .local _ .vmem, ⟨8, _⟩ => ⟨S128x128, .f32⟩
  | .local _ .vmem, ⟨9, _⟩ => ⟨S128x128, .i32⟩
  | .local _ .vmem, ⟨10, _⟩ => ⟨S128x128, .f32⟩
  | _, _ => ⟨S128x1x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![75], ![false]⟩

def k0_cond2 (i : grid0.Coords) : BitVec 1 :=
  let arg0 : BitVec 32 := BitVec.ofNat 32 (i 0).val
  let c74_i32 : BitVec 32 := 74#32
  let v1731 : BitVec 1 := Scalar.cmpi .eq arg0 c74_i32
  let v1732 : BitVec 32 := Scalar.extui v1731
  let c0_i32_242 : BitVec 32 := 0#32
  let v1733 : BitVec 1 := Scalar.cmpi .ne v1732 c0_i32_242
  v1733

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1792 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S112x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S128x1x3584 : Shape := ⟨3, ![128, 1, 3584]⟩
abbrev S38016x1792 : Shape := ⟨2, ![38016, 1792]⟩
abbrev S38016x112 : Shape := ⟨2, ![38016, 112]⟩
abbrev S128x1x1792 : Shape := ⟨3, ![128, 1, 1792]⟩
abbrev S128x1x1x1792 : Shape := ⟨4, ![128, 1, 1, 1792]⟩
abbrev S128x1x2x1792 : Shape := ⟨4, ![128, 1, 2, 1792]⟩
abbrev S19008x1792 : Shape := ⟨2, ![19008, 1792]⟩
abbrev S19008x112 : Shape := ⟨2, ![19008, 112]⟩
abbrev S_ : Shape := ⟨0, ![]⟩
abbrev S19008x1x1792 : Shape := ⟨3, ![19008, 1, 1792]⟩
abbrev S19008x2x1792 : Shape := ⟨3, ![19008, 2, 1792]⟩
abbrev S19008x112x16 : Shape := ⟨3, ![19008, 112, 16]⟩
abbrev S128x1x19008 : Shape := ⟨3, ![128, 1, 19008]⟩
abbrev S128x1 : Shape := ⟨2, ![128, 1]⟩
abbrev S128x1x1 : Shape := ⟨3, ![128, 1, 1]⟩

abbrev nBuf : Space → Nat
  | .hbm => 96
  | .vmem => 0
  | .smem => 0
  | _ => 0

abbrev bufTy : (tb : Table) → Fin (tcTables nBuf tb) → BufTy
  | .hbm, ⟨0, _⟩ => ⟨S128x1x3584, .bf16⟩
  | .hbm, ⟨1, _⟩ => ⟨S38016x1792, .i8⟩
  | .hbm, ⟨2, _⟩ => ⟨S38016x112, .bf16⟩
  | .hbm, ⟨3, _⟩ => ⟨S128x1x1792, .bf16⟩
  | .hbm, ⟨4, _⟩ => ⟨S128x1x1792, .bf16⟩
  | .hbm, ⟨5, _⟩ => ⟨S128x1x1x1792, .bf16⟩
  | .hbm, ⟨6, _⟩ => ⟨S128x1x1x1792, .bf16⟩
  | .hbm, ⟨7, _⟩ => ⟨S128x1x2x1792, .bf16⟩
  | .hbm, ⟨8, _⟩ => ⟨S19008x1792, .i8⟩
  | .hbm, ⟨9, _⟩ => ⟨S19008x112, .bf16⟩
  | .hbm, ⟨10, _⟩ => ⟨S19008x1792, .i32⟩
  | .hbm, ⟨11, _⟩ => ⟨S_, .i32⟩
  | .hbm, ⟨12, _⟩ => ⟨S19008x1792, .i32⟩
  | .hbm, ⟨13, _⟩ => ⟨S19008x1792, .i32⟩
  | .hbm, ⟨14, _⟩ => ⟨S_, .i32⟩
  | .hbm, ⟨15, _⟩ => ⟨S19008x1792, .i32⟩
  | .hbm, ⟨16, _⟩ => ⟨S19008x1792, .i32⟩
  | .hbm, ⟨17, _⟩ => ⟨S19008x1x1792, .i32⟩
  | .hbm, ⟨18, _⟩ => ⟨S19008x1x1792, .i32⟩
  | .hbm, ⟨19, _⟩ => ⟨S19008x2x1792, .i32⟩
  | .hbm, ⟨20, _⟩ => ⟨S19008x112x16, .bf16⟩
  | .hbm, ⟨21, _⟩ => ⟨S19008x1792, .bf16⟩
  | .hbm, ⟨22, _⟩ => ⟨S19008x2x1792, .bf16⟩
  | .hbm, ⟨23, _⟩ => ⟨S_, .bf16⟩
  | .hbm, ⟨24, _⟩ => ⟨S19008x2x1792, .bf16⟩
  | .hbm, ⟨25, _⟩ => ⟨S19008x2x1792, .bf16⟩
  | .hbm, ⟨26, _⟩ => ⟨S19008x1x1792, .bf16⟩
  | .hbm, ⟨27, _⟩ => ⟨S19008x2x1792, .bf16⟩
  | .hbm, ⟨28, _⟩ => ⟨S19008x2x1792, .bf16⟩
  | .hbm, ⟨29, _⟩ => ⟨S128x1x19008, .f32⟩
  | .hbm, ⟨30, _⟩ => ⟨S_, .f32⟩
  | .hbm, ⟨31, _⟩ => ⟨S128x1, .f32⟩
  | .hbm, ⟨32, _⟩ => ⟨S128x1x19008, .i32⟩
  | .hbm, ⟨33, _⟩ => ⟨S_, .f32⟩
  | .hbm, ⟨34, _⟩ => ⟨S_, .i32⟩
  | .hbm, ⟨35, _⟩ => ⟨S128x1, .f32⟩
  | .hbm, ⟨36, _⟩ => ⟨S128x1, .i32⟩
  | .hbm, ⟨37, _⟩ => ⟨S128x1x19008, .i32⟩
  | .hbm, ⟨38, _⟩ => ⟨S128x1x1, .i32⟩
  | .hbm, ⟨39, _⟩ => ⟨S128x1x19008, .i32⟩
  | .hbm, ⟨40, _⟩ => ⟨S128x1x19008, .i1⟩
  | .hbm, ⟨41, _⟩ => ⟨S_, .f32⟩
  | .hbm, ⟨42, _⟩ => ⟨S_, .f32⟩
  | .hbm, ⟨43, _⟩ => ⟨S128x1x19008, .f32⟩
  | .hbm, ⟨44, _⟩ => ⟨S128x1x19008, .f32⟩
  | .hbm, ⟨45, _⟩ => ⟨S_, .f32⟩
  | .hbm, ⟨46, _⟩ => ⟨S128x1, .f32⟩
  | .hbm, ⟨47, _⟩ => ⟨S19008x1792, .i8⟩
  | .hbm, ⟨48, _⟩ => ⟨S19008x112, .bf16⟩
  | .hbm, ⟨49, _⟩ => ⟨S19008x1792, .i32⟩
  | .hbm, ⟨50, _⟩ => ⟨S_, .i32⟩
  | .hbm, ⟨51, _⟩ => ⟨S19008x1792, .i32⟩
  | .hbm, ⟨52, _⟩ => ⟨S19008x1792, .i32⟩
  | .hbm, ⟨53, _⟩ => ⟨S_, .i32⟩
  | .hbm, ⟨54, _⟩ => ⟨S19008x1792, .i32⟩
  | .hbm, ⟨55, _⟩ => ⟨S19008x1792, .i32⟩
  | .hbm, ⟨56, _⟩ => ⟨S19008x1x1792, .i32⟩
  | .hbm, ⟨57, _⟩ => ⟨S19008x1x1792, .i32⟩
  | .hbm, ⟨58, _⟩ => ⟨S19008x2x1792, .i32⟩
  | .hbm, ⟨59, _⟩ => ⟨S19008x112x16, .bf16⟩
  | .hbm, ⟨60, _⟩ => ⟨S19008x1792, .bf16⟩
  | .hbm, ⟨61, _⟩ => ⟨S19008x2x1792, .bf16⟩
  | .hbm, ⟨62, _⟩ => ⟨S_, .bf16⟩
  | .hbm, ⟨63, _⟩ => ⟨S19008x2x1792, .bf16⟩
  | .hbm, ⟨64, _⟩ => ⟨S19008x2x1792, .bf16⟩
  | .hbm, ⟨65, _⟩ => ⟨S19008x1x1792, .bf16⟩
  | .hbm, ⟨66, _⟩ => ⟨S19008x2x1792, .bf16⟩
  | .hbm, ⟨67, _⟩ => ⟨S19008x2x1792, .bf16⟩
  | .hbm, ⟨68, _⟩ => ⟨S128x1x19008, .f32⟩
  | .hbm, ⟨69, _⟩ => ⟨S_, .f32⟩
  | .hbm, ⟨70, _⟩ => ⟨S128x1, .f32⟩
  | .hbm, ⟨71, _⟩ => ⟨S128x1x19008, .i32⟩
  | .hbm, ⟨72, _⟩ => ⟨S_, .f32⟩
  | .hbm, ⟨73, _⟩ => ⟨S_, .i32⟩
  | .hbm, ⟨74, _⟩ => ⟨S128x1, .f32⟩
  | .hbm, ⟨75, _⟩ => ⟨S128x1, .i32⟩
  | .hbm, ⟨76, _⟩ => ⟨S128x1x19008, .i32⟩
  | .hbm, ⟨77, _⟩ => ⟨S128x1x1, .i32⟩
  | .hbm, ⟨78, _⟩ => ⟨S128x1x19008, .i32⟩
  | .hbm, ⟨79, _⟩ => ⟨S128x1x19008, .i1⟩
  | .hbm, ⟨80, _⟩ => ⟨S_, .f32⟩
  | .hbm, ⟨81, _⟩ => ⟨S_, .f32⟩
  | .hbm, ⟨82, _⟩ => ⟨S128x1x19008, .f32⟩
  | .hbm, ⟨83, _⟩ => ⟨S128x1x19008, .f32⟩
  | .hbm, ⟨84, _⟩ => ⟨S_, .f32⟩
  | .hbm, ⟨85, _⟩ => ⟨S128x1, .f32⟩
  | .hbm, ⟨86, _⟩ => ⟨S128x1, .i1⟩
  | .hbm, ⟨87, _⟩ => ⟨S_, .i32⟩
  | .hbm, ⟨88, _⟩ => ⟨S128x1, .i32⟩
  | .hbm, ⟨89, _⟩ => ⟨S128x1, .i32⟩
  | .hbm, ⟨90, _⟩ => ⟨S128x1, .i32⟩
  | .hbm, ⟨91, _⟩ => ⟨S128x1, .f32⟩
  | .hbm, ⟨92, _⟩ => ⟨S128x1, .f32⟩
  | .hbm, ⟨93, _⟩ => ⟨S128x1, .f32⟩
  | .hbm, ⟨94, _⟩ => ⟨S128x1, .f32⟩
  | .hbm, ⟨95, _⟩ => ⟨S128x1, .f32⟩
  | _, _ => ⟨S128x1x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_1 : Ref sig .tc := ⟨.hbm, 30, rfl⟩
abbrev main_v24 : Ref sig .tc := ⟨.hbm, 31, rfl⟩
abbrev main_call0_v0 : Ref sig .tc := ⟨.hbm, 32, rfl⟩
abbrev main_call0_cst : Ref sig .tc := ⟨.hbm, 33, rfl⟩
abbrev main_call0_c : Ref sig .tc := ⟨.hbm, 34, rfl⟩
abbrev main_call0_v1_0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_call1_v0 : Ref sig .tc := ⟨.hbm, 42, rfl⟩
abbrev main_call1_v1 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_4 : Ref sig .tc := ⟨.hbm, 50, rfl⟩
abbrev main_v35 : Ref sig .tc := ⟨.hbm, 51, rfl⟩
abbrev main_v36 : Ref sig .tc := ⟨.hbm, 52, rfl⟩
abbrev main_c_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_6 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_7 : Ref sig .tc := ⟨.hbm, 69, rfl⟩
abbrev main_v51 : Ref sig .tc := ⟨.hbm, 70, rfl⟩
abbrev main_call2_v0 : Ref sig .tc := ⟨.hbm, 71, rfl⟩
abbrev main_call2_cst : Ref sig .tc := ⟨.hbm, 72, rfl⟩
abbrev main_call2_c : Ref sig .tc := ⟨.hbm, 73, rfl⟩
abbrev main_call2_v1_0 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_8 : Ref sig .tc := ⟨.hbm, 80, rfl⟩
abbrev main_call3_v0 : Ref sig .tc := ⟨.hbm, 81, rfl⟩
abbrev main_call3_v1 : Ref sig .tc := ⟨.hbm, 82, rfl⟩
abbrev main_v57 : Ref sig .tc := ⟨.hbm, 83, rfl⟩
abbrev main_cst_9 : Ref sig .tc := ⟨.hbm, 84, rfl⟩
abbrev main_v58 : Ref sig .tc := ⟨.hbm, 85, rfl⟩
abbrev main_v59 : Ref sig .tc := ⟨.hbm, 86, rfl⟩
abbrev main_c_10 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩

abbrev nD : Nat := 1
abbrev τ : Topo := Topo.v7x

variable {F : FTy → Type} [FloatOps F]
-- ==== Proof.Step.lean ====
/- One grid step of the head kernel as a function of what its windows and its carried scratch hold.

   A grid step reads the whole activation `x0`, a block of 512 packed weight rows `x1` and the matching
   512 columns of scales `x2`. It forms two tiles of 256 logit columns, each a sum over fourteen chunks of
   256 contracted elements, and folds four blocks of 128 columns into the running per-lane state:
   best logit, second logit, and the block number of the best. -/
module

public import proofs.«01_k».proof.Proof.Gen.KernelIdeal.Skeleton
public import Idealize.ShloMosaic.Lib.Pipeline.FrameBody
public import Idealize.ShloMosaic.Lib.WholeRead

@[expose] public section

set_option maxRecDepth 16384

noncomputable section

namespace Cert.KernelIdeal.Gen

open Idealize.ShloMosaic Idealize.ShloMosaic.TcCoe

variable {F : FTy → Type} [FloatOps F]

/-- The three scratch arrays carried between grid steps: per batch row and lane, the largest logit so far,
    the block it came from, and the second largest. -/
structure St (F : FTy → Type) where
  best : Vec F S128x128 .f32
  blk : Vec F S128x128 .i32
  sec : Vec F S128x128 .f32

/-- The state the first grid step starts from: both logits at minus infinity and block zero. -/
def St.init : St F := ⟨k0_pay7, k0_pay9, k0_pay8⟩

/-- One scale row of one tile lies inside the scales' block. -/
theorem slices_scale (t k g : ℕ) (ht : t < 2) (hk : k < 14) (hg : g < 8) :
    S112x512.Slices ![8 * k + g, 256 * t] S1x256 := by
  exact ⟨rfl, Fin.forall_fin_two.2 ⟨by show 8 * k + g + 1 ≤ 112; omega, by show 256 * t + 256 ≤ 512; omega⟩⟩

/-- One group's rows lie inside a chunk's codes. -/
theorem slices_codes (g : ℕ) (hg : g < 8) : S256x256.Slices ![32 * g, 0] S32x256 := by
  exact ⟨rfl, Fin.forall_fin_two.2 ⟨by show 32 * g + 32 ≤ 256; omega, by show 0 + 256 ≤ 256; omega⟩⟩

/-- One chunk of one tile lies inside the codes' block. -/
theorem inb_packed (t k : ℕ) (ht : t < 2) (hk : k < 14) :
    ∀ a, (![256 * t, 128 * k] : Fin 2 → ℕ) a + S256x128.size a ≤ S512x1792.size a := by
  exact Fin.forall_fin_two.2 ⟨by show 256 * t + 256 ≤ 512; omega, by show 128 * k + 128 ≤ 1792; omega⟩

/-- One chunk of columns lies inside the activations. -/
theorem inb_act (k : ℕ) (hk : k < 14) :
    ∀ a, (![0, 256 * k] : Fin 2 → ℕ) a + S128x256.size a ≤ S128x3584.size a := by
  exact Fin.forall_fin_two.2 ⟨by show 0 + 128 ≤ 128; omega, by show 256 * k + 256 ≤ 3584; omega⟩

/-- Thirty-two rows of a chunk's codes times their group's scale row. -/
def scaled (sc : FVec F S112x512 .bf16) (q : FVec F S256x256 .bf16) (t k g : ℕ) (ht : t < 2) (hk : k < 14)
    (hg : g < 8) : FVec F S32x256 .bf16 :=
  mulf (extractStridedSlice S32x256 ![32 * g, 0] q (slices_codes g hg))
    (broadcastTo S32x256 (shapeCast S1x256
      (extractStridedSlice S1x256 ![8 * k + g, 256 * t] sc (slices_scale t k g ht hk hg))
      shapeCasts_S1x256_S1x256) broadcasts_S1x256_S32x256)

/-- The dequantized weights of chunk `k` of tile `t`, from the chunk's packed words. -/
def weights (sc : FVec F S112x512 .bf16) (p : Vec F S256x128 .i8) (t k : ℕ) (ht : t < 2) (hk : k < 14) :
    FVec F S256x256 .bf16 :=
  concatenate S256x256 0
    [⟨S32x256, scaled sc (k0_pay12 p) t k 0 ht hk (by decide)⟩, ⟨S32x256, scaled sc (k0_pay12 p) t k 1 ht hk (by decide)⟩,
     ⟨S32x256, scaled sc (k0_pay12 p) t k 2 ht hk (by decide)⟩, ⟨S32x256, scaled sc (k0_pay12 p) t k 3 ht hk (by decide)⟩,
     ⟨S32x256, scaled sc (k0_pay12 p) t k 4 ht hk (by decide)⟩, ⟨S32x256, scaled sc (k0_pay12 p) t k 5 ht hk (by decide)⟩,
     ⟨S32x256, scaled sc (k0_pay12 p) t k 6 ht hk (by decide)⟩, ⟨S32x256, scaled sc (k0_pay12 p) t k 7 ht hk (by decide)⟩]
    concatenates_S32x256_S32x256_S32x256_S32x256_S32x256_S32x256_S32x256_S32x256_S256x256_d0

/-- The logits of tile `t` after its first `n` chunks, from the scales `sc`, each chunk's packed words `P` and
    each chunk's activations `X`. -/
def accTo (sc : FVec F S112x512 .bf16) (P : (t k : ℕ) → t < 2 → k < 14 → Vec F S256x128 .i8)
    (X : (k : ℕ) → k < 14 → Vec F S128x256 .bf16) (t : ℕ) (ht : t < 2) : (n : ℕ) → n ≤ 14 → FVec F S128x256 .f32
  | 0, _ => k0_pay11
  | n + 1, h =>
    addf (accTo sc P X t ht n (by omega))
      (matmul dot_S128x256_S256x256_S128x256_1_0_0_1_n_n none
        (shapeCast S128x256 (X n (by omega)) shapeCasts_S128x256_S128x256)
        (weights sc (P t n ht (by omega)) t n ht (by omega)) (constant S128x256 .f32 0x00000000#32))

/-- The number of the block of 128 columns that grid step `i` folds at place `j` of tile `t`. -/
def blockNo (i : grid0.Coords) (t j : BitVec 32) : BitVec 32 :=
  Scalar.addi (Scalar.addi (Scalar.muli (BitVec.ofNat 32 (i 0).val) 4#32) t) j

/-- A block's logits, at minus infinity when the block lies past the vocabulary. -/
def masked (b : BitVec 32) (v : FVec F S128x128 .f32) : FVec F S128x128 .f32 :=
  Scalar.select (Scalar.cmpi .slt b 297#32) v (broadcast S128x128 (Scalar.ofBits .f32 0xFF800000#32))

/-- One block of 128 logit columns folded into the running state. -/
def fold (b : BitVec 32) (v : FVec F S128x128 .f32) (s : St F) : St F where
  best := shapeCast S128x128 (maximumf s.best v) shapeCasts_S128x128_S128x128
  blk := shapeCast S128x128 (select (cmpf .ogt v s.best) (broadcast S128x128 b) s.blk) shapeCasts_S128x128_S128x128
  sec := shapeCast S128x128 (maximumf s.sec (minimumf s.best v)) shapeCasts_S128x128_S128x128

/-- The left half of a tile of logits. -/
def half0 (L : FVec F S128x256 .f32) : FVec F S128x128 .f32 :=
  extractStridedSlice S128x128 ![0, 0] L slices_S128x256_o0_0_S128x128
/-- The right half of a tile of logits. -/
def half1 (L : FVec F S128x256 .f32) : FVec F S128x128 .f32 :=
  extractStridedSlice S128x128 ![0, 128] L slices_S128x256_o0_128_S128x128

/-- The state after grid step `i`, from the two tiles of logits and the state before. -/
def stepL (i : grid0.Coords) (L0 L1 : FVec F S128x256 .f32) (s : St F) : St F :=
  fold (blockNo i 2#32 1#32) (masked (blockNo i 2#32 1#32) (half1 L1))
    (fold (blockNo i 2#32 0#32) (masked (blockNo i 2#32 0#32) (half0 L1))
      (fold (blockNo i 0#32 1#32) (masked (blockNo i 0#32 1#32) (half1 L0))
        (fold (blockNo i 0#32 0#32) (masked (blockNo i 0#32 0#32) (half0 L0)) s)))

/-- The packed words of chunk `k` of tile `t` in the block `x1`. -/
def packedAt (x1 : Vec F S512x1792 .i8) (t k : ℕ) (ht : t < 2) (hk : k < 14) : Vec F S256x128 .i8 :=
  fun y => x1 ((Rect.unit (s := S512x1792) ![256 * t, 128 * k] S256x128.size (inb_packed t k ht hk)).toLoadRect.idx y)
/-- The activations of chunk `k`. -/
def actAt (x0 : Vec F S128x3584 .bf16) (k : ℕ) (hk : k < 14) : Vec F S128x256 .bf16 :=
  fun y => x0 ((Rect.unit (s := S128x3584) ![0, 256 * k] S128x256.size (inb_act k hk)).toLoadRect.idx y)

/-- Tile `t` of the logits of a grid step, from its three input blocks. -/
def tileLogits (x0 : Vec F S128x3584 .bf16) (x1 : Vec F S512x1792 .i8) (x2 : Vec F S112x512 .bf16) (t : ℕ)
    (ht : t < 2) : FVec F S128x256 .f32 :=
  accTo (k0_pay10 x2) (packedAt x1) (actAt x0) t ht 14 (le_refl _)

/-- The state after grid step `i`, from its three input blocks and the state before. -/
def step (i : grid0.Coords) (x0 : Vec F S128x3584 .bf16) (x1 : Vec F S512x1792 .i8) (x2 : Vec F S112x512 .bf16)
    (s : St F) : St F :=
  stepL i (tileLogits x0 x1 x2 0 (by decide)) (tileLogits x0 x1 x2 1 (by decide)) s

/-! ## What the executed body's loads and stores read -/

section Loads
variable {e : EltTy}

/-- A load of a whole 128 × 128 scratch held at `X` reads `X`. -/
theorem readAt_whole (m : Memref sig .tc .vmem S128x128 e) (h : m.IsWhole) (X : Vec F S128x128 e)
    (inb : ∀ a, (![0, 0] : Fin 2 → ℕ) a + S128x128.size a ≤ S128x128.size a) :
    View.readAt (Elt F) m.view (Rect.unit (s := S128x128) ![0, 0] S128x128.size inb).toLoadRect (h.unread X) = X := by
  funext y
  rw [h.readAt_unread]
  congr 1
  funext a
  apply Fin.ext
  match a with
  | 0 => show 0 + 1 * (y 0).val = (y 0).val; omega
  | 1 => show 0 + 1 * (y 1).val = (y 1).val; omega

/-- A memref whose last store covers it whole reads that store. -/
theorem read_last_whole {s : Shape} (m : Memref sig .tc .vmem s e) (f : m.view.ty.Contents (Elt F))
    (off : Fin s.rank → ℕ) (h0 : off = fun _ => 0)
    (inb : ∀ a, off a + s.size a ≤ s.size a)
    (w : Vec F s e) (L : List (View.Piece (Elt F) s e)) :
    m.view.read (Elt F) (m.view.writes (Elt F) f (⟨Rect.unit off s.size inb, w⟩ :: L)) = w := by
  subst h0
  funext y
  have hy : (Rect.unit (s := s) (fun _ => 0) s.size inb).emb y = y := by
    funext a
    apply Fin.ext
    show 0 + 1 * (y a).val = (y a).val
    omega
  conv_lhs => rw [← hy]
  exact View.read_writes_cons_emb _ _ _ _ _ _

end Loads

end Cert.KernelIdeal.Gen

end
-- ==== Proof.Body.lean ====
/- One grid step's body, run: from its windows' and scratch's contents to the state `step` names. -/
module

public import proofs.«01_k».proof.Proof.Gen.KernelIdeal.Frame
public import proofs.«01_k».proof.Proof.Gen.KernelIdeal.Points
public import proofs.«01_k».proof.Proof.Step
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The condition under which the body initialises its scratch. -/
abbrev cond0_0 (i : grid0.Coords) : Prop := (Scalar.cmpi .ne (Scalar.extui (Scalar.cmpi .eq (BitVec.ofNat 32 (i 0).val) 0#32)) 0#32) = 1#1

/-- It holds at the first grid step only. -/
theorem hcond0_0 : ∀ t : Fin cfg0.N, cond0_0 (grid0.coords t) ↔ t.val % 75 = 0 :=
  (fun t => by
    have ht : t.val < 75 := Nat.lt_of_lt_of_eq t.isLt N_0
    have e0 : (grid0.coords t 0).val = t.val / 1 % 75 := Pipeline.Grid.coords_val t 0 (by decide) rfl
    simp only [cond0_0, e0]
    word_cmp
   : ∀ t : Fin grid0.N, cond0_0 (grid0.coords t) ↔ t.val % 75 = 0)

/-- The condition under which the body writes its outputs. -/
abbrev cond0_1 (i : grid0.Coords) : Prop := k0_cond2 i = 1#1

/-- It holds at the last grid step only. -/
theorem hcond0_1 : ∀ t : Fin cfg0.N, cond0_1 (grid0.coords t) ↔ t.val % 75 = 74 :=
  (fun t => by
    have ht : t.val < 75 := Nat.lt_of_lt_of_eq t.isLt N_0
    have e0 : (grid0.coords t 0).val = t.val / 1 % 75 := Pipeline.Grid.coords_val t 0 (by decide) rfl
    simp only [cond0_1, k0_cond2, e0]
    word_cmp
   : ∀ t : Fin grid0.N, cond0_1 (grid0.coords t) ↔ t.val % 75 = 74)

/-- The chunk loads the body makes are the chunks of its input blocks. -/
theorem load_packed (m : Memref sig .tc .vmem S512x1792 .i8) (h : m.IsWhole) (X : Vec F S512x1792 .i8) :
    (fun (t k : ℕ) (ht : t < 2) (hk : k < 14) => (View.readAt (Elt F) m.view
      (Rect.unit (s := S512x1792) ![256 * t, 128 * k] S256x128.size (inb_packed t k ht hk)).toLoadRect (h.unread X) : Vec F S256x128 .i8))
      = packedAt X := by
  funext t k ht hk y; exact h.readAt_unread X _ y

/-- Loading a chunk of the activations' buffer reads those columns of its contents. -/
theorem load_act (m : Memref sig .tc .vmem S128x3584 .bf16) (h : m.IsWhole) (X : Vec F S128x3584 .bf16) :
    (fun (k : ℕ) (hk : k < 14) => (View.readAt (Elt F) m.view
      (Rect.unit (s := S128x3584) ![0, 256 * k] S128x256.size (inb_act k hk)).toLoadRect (h.unread X) : Vec F S128x256 .bf16))
      = actAt X := by
  funext k hk y; exact h.readAt_unread X _ y

/-- Loading the scales' buffer whole reads its contents. -/
theorem load_scale (m : Memref sig .tc .vmem S112x512 .bf16) (h : m.IsWhole) (X : Vec F S112x512 .bf16)
    (inb : ∀ a, (![0, 0] : Fin 2 → ℕ) a + S112x512.size a ≤ S112x512.size a) :
    View.readAt (Elt F) m.view (Rect.unit (s := S112x512) ![0, 0] S112x512.size inb).toLoadRect (h.unread X) = X := by
  funext y
  rw [h.readAt_unread]
  congr 1
  funext a
  apply Fin.ext
  match a with
  | 0 => show 0 + 1 * (y 0).val = (y 0).val; omega
  | 1 => show 0 + 1 * (y 1).val = (y 1).val; omega

/-- The state after a grid step, from the loads the body makes. -/
theorem step_loads (arg1 : Memref sig .tc .vmem S128x3584 .bf16) (harg1 : arg1.IsWhole)
    (arg2 : Memref sig .tc .vmem S512x1792 .i8) (harg2 : arg2.IsWhole)
    (arg3 : Memref sig .tc .vmem S112x512 .bf16) (harg3 : arg3.IsWhole) (i : grid0.Coords)
    (x0 : Vec F S128x3584 .bf16) (x1 : Vec F S512x1792 .i8) (x2 : Vec F S112x512 .bf16) (s : St F) :
    step i x0 x1 x2 s =
      have P := fun (t k : ℕ) (ht : t < 2) (hk : k < 14) => (View.readAt (Elt F) arg2.view
        (Rect.unit (s := S512x1792) ![256 * t, 128 * k] S256x128.size (inb_packed t k ht hk)).toLoadRect (harg2.unread x1) : Vec F S256x128 .i8)
      have X := fun (k : ℕ) (hk : k < 14) => (View.readAt (Elt F) arg1.view
        (Rect.unit (s := S128x3584) ![0, 256 * k] S128x256.size (inb_act k hk)).toLoadRect (harg1.unread x0) : Vec F S128x256 .bf16)
      have S := k0_pay10 (View.readAt (Elt F) arg3.view (Rect.unit (s := S112x512) ![0, 0] S112x512.size inb_S112x512_S112x512_0_0).toLoadRect (harg3.unread x2) : Vec F S112x512 .bf16)
      stepL i (accTo S P X 0 (by decide) 14 (le_refl _)) (accTo S P X 1 (by decide) 14 (le_refl _)) s := by
  extract_lets P X S
  have hP : P = packedAt x1 := load_packed arg2 harg2 x1
  have hX : X = actAt x0 := load_act arg1 harg1 x0
  have hS : S = k0_pay10 x2 := congrArg k0_pay10 (load_scale arg3 harg3 x2 _)
  rw [hP, hX, hS]
  rfl

set_option maxHeartbeats 4000000 in
/-- The first grid step: whatever the scratch held, it ends at `step` of the initial state. -/
theorem run_A (c : Dev nD) (i : grid0.Coords)
    (arg1 : Memref sig .tc .vmem S128x3584 .bf16) (harg1 : arg1.IsWhole) (arg2 : Memref sig .tc .vmem S512x1792 .i8) (harg2 : arg2.IsWhole) (arg3 : Memref sig .tc .vmem S112x512 .bf16) (harg3 : arg3.IsWhole) (arg4 : Memref sig .tc .vmem S1x128 .i32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .i32) (harg8 : arg8.IsWhole) (arg9 : Memref sig .tc .vmem S128x128 .f32) (harg9 : arg9.IsWhole)
    (hc0 : cond0_0 i) (hc1 : ¬cond0_1 i)
    (x0 : Vec F S128x3584 .bf16) (x1 : Vec F S512x1792 .i8) (x2 : Vec F S112x512 .bf16)
    (d3 : Vec F S1x128 .i32) (d4 d5 : Vec F S1x128 .f32) (s : St F) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare d3 ∗ owns (c : Thread nD τ) arg5 fullShare d4 ∗ owns (c : Thread nD τ) arg6 fullShare d5 ∗ owns (c : Thread nD τ) arg7 fullShare s.best ∗ owns (c : Thread nD τ) arg8 fullShare s.blk ∗ owns (c : Thread nD τ) arg9 fullShare s.sec
      ∗ (iprop(owns (c : Thread nD τ) arg1 fullShare x0 ∗ owns (c : Thread nD τ) arg2 fullShare x1 ∗ owns (c : Thread nD τ) arg3 fullShare x2 ∗ owns (c : Thread nD τ) arg4 fullShare d3 ∗ owns (c : Thread nD τ) arg5 fullShare d4 ∗ owns (c : Thread nD τ) arg6 fullShare d5 ∗ owns (c : Thread nD τ) arg7 fullShare (step i x0 x1 x2 St.init).best ∗ owns (c : Thread nD τ) arg8 fullShare (step i x0 x1 x2 St.init).blk ∗ owns (c : Thread nD τ) arg9 fullShare (step i x0 x1 x2 St.init).sec) -∗ K ⟨⟩))
    ⊢ wp frame (wpE (defs₀ (F := F)) Variants.none c none) E
        (cc0_q4_head_top2 i arg1 harg1 arg2 harg2 arg3 harg3 arg4 harg4 arg5 harg5 arg6 harg6 arg7 harg7 arg8 harg8 arg9 harg9) K := by
  simp only [cc0_q4_head_top2_eq_skeleton]; unfold cc0_q4_head_top2_skel
  simp only [k0_part34_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2
  obtain rfl := harg7.eq_unread hfs0; obtain rfl := harg8.eq_unread hfs1; obtain rfl := harg9.eq_unread hfs2
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  have hst := step_loads arg1 harg1 arg2 harg2 arg3 harg3 i x0 x1 x2 St.init
  isplitl [HS0]
  on_goal 1 =>
    iexists _; isplitr; swap; · iexact HS0
    ipureintro; refine (read_last_whole arg7 _ _ (by decide) _ _ _).trans ?_
  rotate_left
  isplitl [HS1]
  on_goal 1 =>
    iexists _; isplitr; swap; · iexact HS1
    ipureintro; refine (read_last_whole arg8 _ _ (by decide) _ _ _).trans ?_
  rotate_left
  iexists _; isplitr; swap; · iexact HS2
  ipureintro; refine (read_last_whole arg9 _ _ (by decide) _ _ _).trans ?_
  all_goals rw [hst]
  all_goals try delta run_A.sl.r_145
  all_goals try delta run_A.sl.r_143
  all_goals try delta run_A.sl.r_144
  all_goals try delta run_A.sl.v1714
  all_goals try delta run_A.sl.v1721
  all_goals try delta run_A.sl.v1713
  all_goals try delta run_A.sl.HS2_4
  all_goals try delta run_A.sl.HS1_4
  all_goals try delta run_A.sl.HS0_4
  all_goals try delta run_A.sl.v1689
  all_goals try delta run_A.sl.v1696
  all_goals try delta run_A.sl.v1688
  all_goals try delta run_A.sl.HS2_3
  all_goals try delta run_A.sl.HS1_3
  all_goals try delta run_A.sl.HS0_3
  all_goals try delta run_A.sl.v851
  all_goals try delta run_A.sl.v858
  all_goals try delta run_A.sl.v850
  all_goals try delta run_A.sl.HS2_2
  all_goals try delta run_A.sl.HS1_2
  all_goals try delta run_A.sl.HS0_2
  all_goals try delta run_A.sl.HS2_1
  all_goals try delta run_A.sl.HS1_1
  all_goals try delta run_A.sl.HS0_1
  all_goals try delta run_A.sl.r_79
  all_goals try delta run_A.sl.r_80
  all_goals try delta run_A.sl.r_81
  all_goals try delta run_A.sl.r_78
  all_goals try delta run_A.sl.v825
  all_goals try delta run_A.sl.v826
  all_goals try delta run_A.sl.v833
  all_goals try delta run_A.sl.HS0_1
  all_goals try delta run_A.sl.HS1_1
  all_goals try delta run_A.sl.HS2_1
  all_goals try beta_reduce
  all_goals repeat rw [View.readCov_cons_toLoadRect]
  all_goals repeat rw [readAt_whole]
  all_goals rfl

set_option maxHeartbeats 4000000 in
/-- A grid step that is neither the first nor the last: the scratch moves by `step`, the outputs are untouched. -/
theorem run_B (c : Dev nD) (i : grid0.Coords)
    (arg1 : Memref sig .tc .vmem S128x3584 .bf16) (harg1 : arg1.IsWhole) (arg2 : Memref sig .tc .vmem S512x1792 .i8) (harg2 : arg2.IsWhole) (arg3 : Memref sig .tc .vmem S112x512 .bf16) (harg3 : arg3.IsWhole) (arg4 : Memref sig .tc .vmem S1x128 .i32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .i32) (harg8 : arg8.IsWhole) (arg9 : Memref sig .tc .vmem S128x128 .f32) (harg9 : arg9.IsWhole)
    (hc0 : ¬cond0_0 i) (hc1 : ¬cond0_1 i)
    (x0 : Vec F S128x3584 .bf16) (x1 : Vec F S512x1792 .i8) (x2 : Vec F S112x512 .bf16)
    (d3 : Vec F S1x128 .i32) (d4 d5 : Vec F S1x128 .f32) (s : St F) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare d3 ∗ owns (c : Thread nD τ) arg5 fullShare d4 ∗ owns (c : Thread nD τ) arg6 fullShare d5 ∗ owns (c : Thread nD τ) arg7 fullShare s.best ∗ owns (c : Thread nD τ) arg8 fullShare s.blk ∗ owns (c : Thread nD τ) arg9 fullShare s.sec
      ∗ (iprop(owns (c : Thread nD τ) arg1 fullShare x0 ∗ owns (c : Thread nD τ) arg2 fullShare x1 ∗ owns (c : Thread nD τ) arg3 fullShare x2 ∗ owns (c : Thread nD τ) arg4 fullShare d3 ∗ owns (c : Thread nD τ) arg5 fullShare d4 ∗ owns (c : Thread nD τ) arg6 fullShare d5 ∗ owns (c : Thread nD τ) arg7 fullShare (step i x0 x1 x2 s).best ∗ owns (c : Thread nD τ) arg8 fullShare (step i x0 x1 x2 s).blk ∗ owns (c : Thread nD τ) arg9 fullShare (step i x0 x1 x2 s).sec) -∗ K ⟨⟩))
    ⊢ wp frame (wpE (defs₀ (F := F)) Variants.none c none) E
        (cc0_q4_head_top2 i arg1 harg1 arg2 harg2 arg3 harg3 arg4 harg4 arg5 harg5 arg6 harg6 arg7 harg7 arg8 harg8 arg9 harg9) K := by
  simp only [cc0_q4_head_top2_eq_skeleton]; unfold cc0_q4_head_top2_skel
  simp only [k0_part34_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2
  obtain rfl := harg7.eq_unread hfs0; obtain rfl := harg8.eq_unread hfs1; obtain rfl := harg9.eq_unread hfs2
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  have hst := step_loads arg1 harg1 arg2 harg2 arg3 harg3 i x0 x1 x2 s
  isplitl [HS0]
  on_goal 1 =>
    iexists _; isplitr; swap; · iexact HS0
    ipureintro; refine (read_last_whole arg7 _ _ (by decide) _ _ _).trans ?_
  rotate_left
  isplitl [HS1]
  on_goal 1 =>
    iexists _; isplitr; swap; · iexact HS1
    ipureintro; refine (read_last_whole arg8 _ _ (by decide) _ _ _).trans ?_
  rotate_left
  iexists _; isplitr; swap; · iexact HS2
  ipureintro; refine (read_last_whole arg9 _ _ (by decide) _ _ _).trans ?_
  all_goals rw [hst]
  all_goals try delta run_B.sl.r_145
  all_goals try delta run_B.sl.r_144
  all_goals try delta run_B.sl.v1714
  all_goals try delta run_B.sl.v1721
  all_goals try delta run_B.sl.v1713
  all_goals try delta run_B.sl.HS2_3
  all_goals try delta run_B.sl.HS1_3
  all_goals try delta run_B.sl.HS0_3
  all_goals try delta run_B.sl.v1689
  all_goals try delta run_B.sl.v1696
  all_goals try delta run_B.sl.v1688
  all_goals try delta run_B.sl.HS2_2
  all_goals try delta run_B.sl.HS1_2
  all_goals try delta run_B.sl.HS0_2
  all_goals try delta run_B.sl.v851
  all_goals try delta run_B.sl.v858
  all_goals try delta run_B.sl.v850
  all_goals try delta run_B.sl.HS2_1
  all_goals try delta run_B.sl.HS1_1
  all_goals try delta run_B.sl.HS0_1
  all_goals try delta run_B.sl.r_79
  all_goals try delta run_B.sl.r_80
  all_goals try delta run_B.sl.r_81
  all_goals try delta run_B.sl.r_78
  all_goals try delta run_B.sl.v825
  all_goals try delta run_B.sl.v826
  all_goals try delta run_B.sl.v833
  all_goals try delta run_B.sl.HS0_1
  all_goals try delta run_B.sl.HS1_1
  all_goals try delta run_B.sl.HS2_1
  all_goals try beta_reduce
  all_goals repeat rw [View.readCov_cons_toLoadRect]
  all_goals repeat rw [readAt_whole]
  all_goals rfl

set_option maxHeartbeats 4000000 in
/-- The last grid step: the scratch moves by `step`, and the outputs hold token, margin and top of the new state. -/
theorem run_C (c : Dev nD) (i : grid0.Coords)
    (arg1 : Memref sig .tc .vmem S128x3584 .bf16) (harg1 : arg1.IsWhole) (arg2 : Memref sig .tc .vmem S512x1792 .i8) (harg2 : arg2.IsWhole) (arg3 : Memref sig .tc .vmem S112x512 .bf16) (harg3 : arg3.IsWhole) (arg4 : Memref sig .tc .vmem S1x128 .i32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .i32) (harg8 : arg8.IsWhole) (arg9 : Memref sig .tc .vmem S128x128 .f32) (harg9 : arg9.IsWhole)
    (hc0 : ¬cond0_0 i) (hc1 : cond0_1 i)
    (x0 : Vec F S128x3584 .bf16) (x1 : Vec F S512x1792 .i8) (x2 : Vec F S112x512 .bf16)
    (d3 : Vec F S1x128 .i32) (d4 d5 : Vec F S1x128 .f32) (s : St F) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare d3 ∗ owns (c : Thread nD τ) arg5 fullShare d4 ∗ owns (c : Thread nD τ) arg6 fullShare d5 ∗ owns (c : Thread nD τ) arg7 fullShare s.best ∗ owns (c : Thread nD τ) arg8 fullShare s.blk ∗ owns (c : Thread nD τ) arg9 fullShare s.sec
      ∗ (iprop(owns (c : Thread nD τ) arg1 fullShare x0 ∗ owns (c : Thread nD τ) arg2 fullShare x1 ∗ owns (c : Thread nD τ) arg3 fullShare x2 ∗ owns (c : Thread nD τ) arg4 fullShare (k0_pay5 (step i x0 x1 x2 s).best (step i x0 x1 x2 s).blk) ∗ owns (c : Thread nD τ) arg5 fullShare (k0_pay6 (step i x0 x1 x2 s).best (step i x0 x1 x2 s).blk (step i x0 x1 x2 s).sec) ∗ owns (c : Thread nD τ) arg6 fullShare (k0_pay4 (step i x0 x1 x2 s).best) ∗ owns (c : Thread nD τ) arg7 fullShare (step i x0 x1 x2 s).best ∗ owns (c : Thread nD τ) arg8 fullShare (step i x0 x1 x2 s).blk ∗ owns (c : Thread nD τ) arg9 fullShare (step i x0 x1 x2 s).sec) -∗ K ⟨⟩))
    ⊢ wp frame (wpE (defs₀ (F := F)) Variants.none c none) E
        (cc0_q4_head_top2 i arg1 harg1 arg2 harg2 arg3 harg3 arg4 harg4 arg5 harg5 arg6 harg6 arg7 harg7 arg8 harg8 arg9 harg9) K := by
  simp only [cc0_q4_head_top2_eq_skeleton]; unfold cc0_q4_head_top2_skel
  simp only [k0_part34_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2
  obtain rfl := harg7.eq_unread hfs0; obtain rfl := harg8.eq_unread hfs1; obtain rfl := harg9.eq_unread hfs2
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  have hst := step_loads arg1 harg1 arg2 harg2 arg3 harg3 i x0 x1 x2 s
  isplitl [H3]
  on_goal 1 =>
    iexists _; isplitr; swap; · iexact H3
    ipureintro; refine (read_last_whole arg4 _ _ (by decide) _ _ _).trans ?_
  rotate_left
  isplitl [H4]
  on_goal 1 =>
    iexists _; isplitr; swap; · iexact H4
    ipureintro; refine (read_last_whole arg5 _ _ (by decide) _ _ _).trans ?_
  rotate_left
  isplitl [H5]
  on_goal 1 =>
    iexists _; isplitr; swap; · iexact H5
    ipureintro; refine (read_last_whole arg6 _ _ (by decide) _ _ _).trans ?_
  rotate_left
  isplitl [HS0]
  on_goal 1 =>
    iexists _; isplitr; swap; · iexact HS0
    ipureintro; refine (read_last_whole arg7 _ _ (by decide) _ _ _).trans ?_
  rotate_left
  isplitl [HS1]
  on_goal 1 =>
    iexists _; isplitr; swap; · iexact HS1
    ipureintro; refine (read_last_whole arg8 _ _ (by decide) _ _ _).trans ?_
  rotate_left
  iexists _; isplitr; swap; · iexact HS2
  ipureintro; refine (read_last_whole arg9 _ _ (by decide) _ _ _).trans ?_
  all_goals rw [hst]
  all_goals try delta run_C.sl.v1734
  all_goals try delta run_C.sl.v1737
  all_goals try delta run_C.sl.v1752
  all_goals try delta run_C.sl.HS0_4
  all_goals try delta run_C.sl.HS1_4
  all_goals try delta run_C.sl.HS2_4
  all_goals try delta run_C.sl.r_145
  all_goals try delta run_C.sl.r_144
  all_goals try delta run_C.sl.v1714
  all_goals try delta run_C.sl.v1721
  all_goals try delta run_C.sl.v1713
  all_goals try delta run_C.sl.HS2_3
  all_goals try delta run_C.sl.HS1_3
  all_goals try delta run_C.sl.HS0_3
  all_goals try delta run_C.sl.v1689
  all_goals try delta run_C.sl.v1696
  all_goals try delta run_C.sl.v1688
  all_goals try delta run_C.sl.HS2_2
  all_goals try delta run_C.sl.HS1_2
  all_goals try delta run_C.sl.HS0_2
  all_goals try delta run_C.sl.v851
  all_goals try delta run_C.sl.v858
  all_goals try delta run_C.sl.v850
  all_goals try delta run_C.sl.HS2_1
  all_goals try delta run_C.sl.HS1_1
  all_goals try delta run_C.sl.HS0_1
  all_goals try delta run_C.sl.r_79
  all_goals try delta run_C.sl.r_80
  all_goals try delta run_C.sl.r_81
  all_goals try delta run_C.sl.r_78
  all_goals try delta run_C.sl.v825
  all_goals try delta run_C.sl.v826
  all_goals try delta run_C.sl.v833
  all_goals try delta run_C.sl.HS0_1
  all_goals try delta run_C.sl.HS1_1
  all_goals try delta run_C.sl.HS2_1
  all_goals try beta_reduce
  all_goals repeat rw [View.readCov_cons_toLoadRect]
  all_goals repeat rw [readAt_whole]
  all_goals rfl

end Cert.KernelIdeal.Gen

end
-- ==== Proof.FrameK.lean ====
/- The kernel's frame and its run: proof data carrying an invariant of the scratch state through the 75 points. -/
module

public import proofs.«01_k».proof.Proof.Body

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The operands of the body at a point -/

/-- Window 0's current staging buffer at point `t`. -/
abbrev stg0 (t : Fin cfg0.N) : Memref sig .tc .vmem S128x3584 .bf16 := win0_0.stage (cfg0.slots t 0)
/-- Window 1's current staging buffer at point `t`. -/
abbrev stg1 (t : Fin cfg0.N) : Memref sig .tc .vmem S512x1792 .i8 := win0_1.stage (cfg0.slots t 1)
/-- Window 2's current staging buffer at point `t`. -/
abbrev stg2 (t : Fin cfg0.N) : Memref sig .tc .vmem S112x512 .bf16 := win0_2.stage (cfg0.slots t 2)
/-- Window 3's current staging buffer at point `t`. -/
abbrev stg3 (t : Fin cfg0.N) : Memref sig .tc .vmem S1x128 .i32 := win0_3.stage (cfg0.slots t 3)
/-- Window 4's current staging buffer at point `t`. -/
abbrev stg4 (t : Fin cfg0.N) : Memref sig .tc .vmem S1x128 .f32 := win0_4.stage (cfg0.slots t 4)
/-- Window 5's current staging buffer at point `t`. -/
abbrev stg5 (t : Fin cfg0.N) : Memref sig .tc .vmem S1x128 .f32 := win0_5.stage (cfg0.slots t 5)
/-- Scratch buffer 0, whole. -/
abbrev scr0 : Memref sig .tc .vmem S128x128 .f32 := Memref.whole cc0_scratch0
/-- Scratch buffer 1, whole. -/
abbrev scr1 : Memref sig .tc .vmem S128x128 .i32 := Memref.whole cc0_scratch1
/-- Scratch buffer 2, whole. -/
abbrev scr2 : Memref sig .tc .vmem S128x128 .f32 := Memref.whole cc0_scratch2

/-- What the launch hands the region: each scratch buffer at some contents, and the generator register. -/
theorem launch_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d)) ∗ (∃ r, prngReg c r)) := by
  unfold Pipeline.ΦA; rw [scopedRest0_eq]; simp only [scr0, scr1, scr2, owns_whole]; try rfl

/-- The packed codes' staging buffer at point `t`: the rows inside the array, and `d` past its end. -/
abbrev codesAt (c : Dev nD) (t : Fin cfg0.N) (d : Vec F S512x1792 .i8) : Vec F S512x1792 .i8 :=
  win0_1.fill (grid0.coords t) d (iblk m c 1 t)
/-- The scales' staging buffer at point `t`: the columns inside the array, and `d` past its end. -/
abbrev scalesAt (c : Dev nD) (t : Fin cfg0.N) (d : Vec F S112x512 .bf16) : Vec F S112x512 .bf16 :=
  win0_2.fill (grid0.coords t) d (iblk m c 2 t)

/-- The state after point `t` from the state `s` before it, with `d1`, `d2` past the arrays' ends. -/
def stepAt (c : Dev nD) (t : Fin cfg0.N) (d1 : Vec F S512x1792 .i8) (d2 : Vec F S112x512 .bf16) (s : St F) : St F :=
  step (grid0.coords t) (iblk m c 0 t) (codesAt m c t d1) (scalesAt m c t d2) s

/-- A property of the state, point by point, that the body keeps whatever lies past the arrays' ends. -/
structure Plan where
  Inv : Dev nD → ℕ → St F → Prop
  first : ∀ (c : Dev nD) (t : Fin cfg0.N), t.val = 0 → ∀ d1 d2, Inv c 1 (stepAt m c t d1 d2 St.init)
  next : ∀ (c : Dev nD) (t : Fin cfg0.N), t.val ≠ 0 → ∀ d1 d2 s, Inv c t.val s → Inv c (t.val + 1) (stepAt m c t d1 d2 s)

variable {m}

/-- The loop's invariant before point `n`: at the first point what the launch hands the region; later the scratch at a
    state with the plan's property. -/
def PhiP (P : Plan m) (c : Dev nD) : ℕ → sProp 𝕄
  | 0 => Pipeline.ΦA spec0 c
  | n + 1 => iprop((∃ s, ⌜P.Inv c (n + 1) s⌝ ∗ owns (c : Thread nD τ) scr0 fullShare s.best ∗ owns (c : Thread nD τ) scr1 fullShare s.blk ∗ owns (c : Thread nD τ) scr2 fullShare s.sec) ∗ (∃ r, prngReg c r))

/-- After the first point the invariant names a state with the plan's property. -/
theorem PhiP_pos (P : Plan m) (c : Dev nD) {n : ℕ} (h : n ≠ 0) :
    PhiP P c n = iprop((∃ s, ⌜P.Inv c n s⌝ ∗ owns (c : Thread nD τ) scr0 fullShare s.best ∗ owns (c : Thread nD τ) scr1 fullShare s.blk ∗ owns (c : Thread nD τ) scr2 fullShare s.sec) ∗ (∃ r, prngReg c r)) := by
  cases n with
  | zero => exact absurd rfl h
  | succ n => rfl

set_option maxHeartbeats 1600000 in
/-- The body at a point that is not the last: the invariant advances and the outputs' buffers are left alone. -/
theorem sound_mid (P : Plan m) (c : Dev nD) (t : Fin cfg0.N) (h1 : t.val % 75 ≠ 74)
    (d1 : Vec F S512x1792 .i8) (d2 : Vec F S112x512 .bf16) (d3 : Vec F S1x128 .i32) (d4 d5 : Vec F S1x128 .f32) (K : PUnit → sProp 𝕄) :
    iprop(PhiP P c t.val ∗ owns (c : Thread nD τ) (stg0 t) fullShare (iblk m c 0 t) ∗ owns (c : Thread nD τ) (stg1 t) fullShare (codesAt m c t d1) ∗ owns (c : Thread nD τ) (stg2 t) fullShare (scalesAt m c t d2) ∗ owns (c : Thread nD τ) (stg3 t) fullShare d3 ∗ owns (c : Thread nD τ) (stg4 t) fullShare d4 ∗ owns (c : Thread nD τ) (stg5 t) fullShare d5
      ∗ (iprop(PhiP P c (t.val + 1) ∗ owns (c : Thread nD τ) (stg0 t) fullShare (iblk m c 0 t) ∗ owns (c : Thread nD τ) (stg1 t) fullShare (codesAt m c t d1) ∗ owns (c : Thread nD τ) (stg2 t) fullShare (scalesAt m c t d2) ∗ owns (c : Thread nD τ) (stg3 t) fullShare d3 ∗ owns (c : Thread nD τ) (stg4 t) fullShare d4 ∗ owns (c : Thread nD τ) (stg5 t) fullShare d5) -∗ K ⟨⟩))
    ⊢ wp frame (wpE (defs₀ (F := F)) Variants.none c none) Set.univ (bodyAt0 t) K := by
  have hN : t.val < 75 := lt_of_lt_of_eq t.isLt (show cfg0.N = 75 from N_0)
  rw [PhiP_pos P c (Nat.succ_ne_zero _)]
  by_cases hz : t.val = 0
  · rw [hz, show PhiP P c 0 = Pipeline.ΦA spec0 c from rfl, launch_eq]
    iintro ⟨⟨⟨⟨%e0, HS0⟩, ⟨%e1, HS1⟩, ⟨%e2, HS2⟩⟩, Hg⟩, H0, H1, H2, H3, H4, H5, Hk⟩
    iapply (run_A c (grid0.coords t) _ _ _ _ _ _ _ _ _ _ _ _ _ _ _ _ _ _ ((hcond0_0 t).mpr (by omega)) (fun h => h1 ((hcond0_1 t).mp h)) (iblk m c 0 t) (codesAt m c t d1) (scalesAt m c t d2) d3 d4 d5 ⟨e0, e1, e2⟩ Set.univ K)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, HS0, HS1, HS2⟩
    iapply Hk
    isplitl [HS0 HS1 HS2 Hg]
    · isplitl [HS0 HS1 HS2]
      · iexists (stepAt m c t d1 d2 St.init)
        isplitr; · ipureintro; exact P.first c t hz d1 d2
        isplitl [HS0]; · iexact HS0
        isplitl [HS1]; · iexact HS1
        iexact HS2
      iexact Hg
    isplitl [H0]; · iexact H0
    isplitl [H1]; · iexact H1
    isplitl [H2]; · iexact H2
    isplitl [H3]; · iexact H3
    isplitl [H4]; · iexact H4
    iexact H5
  · rw [PhiP_pos P c hz]
    iintro ⟨⟨⟨%s, %hs, HS0, HS1, HS2⟩, Hg⟩, H0, H1, H2, H3, H4, H5, Hk⟩
    iapply (run_B c (grid0.coords t) _ _ _ _ _ _ _ _ _ _ _ _ _ _ _ _ _ _ (fun h => hz (by have := (hcond0_0 t).mp h; omega)) (fun h => h1 ((hcond0_1 t).mp h)) (iblk m c 0 t) (codesAt m c t d1) (scalesAt m c t d2) d3 d4 d5 s Set.univ K)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, HS0, HS1, HS2⟩
    iapply Hk
    isplitl [HS0 HS1 HS2 Hg]
    · isplitl [HS0 HS1 HS2]
      · iexists (stepAt m c t d1 d2 s)
        isplitr; · ipureintro; exact P.next c t hz d1 d2 s hs
        isplitl [HS0]; · iexact HS0
        isplitl [HS1]; · iexact HS1
        iexact HS2
      iexact Hg
    isplitl [H0]; · iexact H0
    isplitl [H1]; · iexact H1
    isplitl [H2]; · iexact H2
    isplitl [H3]; · iexact H3
    isplitl [H4]; · iexact H4
    iexact H5

set_option maxHeartbeats 1600000 in
/-- The body at the last point: the outputs' buffers are left at the readout of a state with the plan's property. -/
theorem sound_last (P : Plan m) (c : Dev nD) (t : Fin cfg0.N) (h1 : t.val % 75 = 74)
    (d1 : Vec F S512x1792 .i8) (d2 : Vec F S112x512 .bf16) (d3 : Vec F S1x128 .i32) (d4 d5 : Vec F S1x128 .f32) (K : PUnit → sProp 𝕄) :
    iprop(PhiP P c t.val ∗ owns (c : Thread nD τ) (stg0 t) fullShare (iblk m c 0 t) ∗ owns (c : Thread nD τ) (stg1 t) fullShare (codesAt m c t d1) ∗ owns (c : Thread nD τ) (stg2 t) fullShare (scalesAt m c t d2) ∗ owns (c : Thread nD τ) (stg3 t) fullShare d3 ∗ owns (c : Thread nD τ) (stg4 t) fullShare d4 ∗ owns (c : Thread nD τ) (stg5 t) fullShare d5
      ∗ (iprop(PhiP P c (t.val + 1) ∗ owns (c : Thread nD τ) (stg0 t) fullShare (iblk m c 0 t) ∗ owns (c : Thread nD τ) (stg1 t) fullShare (codesAt m c t d1) ∗ owns (c : Thread nD τ) (stg2 t) fullShare (scalesAt m c t d2) ∗ (∃ s, ⌜P.Inv c 75 s⌝ ∗ owns (c : Thread nD τ) (stg3 t) fullShare (k0_pay5 s.best s.blk) ∗ owns (c : Thread nD τ) (stg4 t) fullShare (k0_pay6 s.best s.blk s.sec) ∗ owns (c : Thread nD τ) (stg5 t) fullShare (k0_pay4 s.best))) -∗ K ⟨⟩))
    ⊢ wp frame (wpE (defs₀ (F := F)) Variants.none c none) Set.univ (bodyAt0 t) K := by
  have hN : t.val < 75 := lt_of_lt_of_eq t.isLt (show cfg0.N = 75 from N_0)
  have hz : t.val ≠ 0 := by omega
  have h75 : t.val + 1 = 75 := by omega
  rw [PhiP_pos P c (Nat.succ_ne_zero _), PhiP_pos P c hz]
  iintro ⟨⟨⟨%s, %hs, HS0, HS1, HS2⟩, Hg⟩, H0, H1, H2, H3, H4, H5, Hk⟩
  have hI := P.next c t hz d1 d2 s hs
  iapply (run_C c (grid0.coords t) _ _ _ _ _ _ _ _ _ _ _ _ _ _ _ _ _ _ (fun h => hz (by have := (hcond0_0 t).mp h; omega)) ((hcond0_1 t).mpr h1) (iblk m c 0 t) (codesAt m c t d1) (scalesAt m c t d2) d3 d4 d5 s Set.univ K)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, HS1, HS2⟩
  iapply Hk
  isplitl [HS0 HS1 HS2 Hg]
  · isplitl [HS0 HS1 HS2]
    · iexists (stepAt m c t d1 d2 s)
      isplitr; · ipureintro; exact hI
      isplitl [HS0]; · iexact HS0
      isplitl [HS1]; · iexact HS1
      iexact HS2
    iexact Hg
  isplitl [H0]; · iexact H0
  isplitl [H1]; · iexact H1
  isplitl [H2]; · iexact H2
  iexists (stepAt m c t d1 d2 s)
  isplitr; · ipureintro; rw [← h75]; exact hI
  isplitl [H3]; · iexact H3
  isplitl [H4]; · iexact H4
  iexact H5

/-! ## The proof data -/

/-- The proof data: the arrays as the region finds them; after the body each input's buffer at its block, each output's
    at the value named; the plan's invariant. -/
def dats (P : Plan m) (O3 : Dev nD → Vec F S1x128 .i32) (O4 O5 : Dev nD → Vec F S1x128 .f32) (_ : Fin 1) (c : Dev nD) :
    Dat τ (Elt F) Unit ℕ (UR sig nD τ) ℕ cfg0 c where
  A w := V m c (Pipeline.arrRef spec0 w)
  after w t := match w with
    | ⟨0, _⟩ => iblk m c 0 t
    | ⟨1, h⟩ => codesAt m c t (Pipeline.Dat.unnamed (cfg := cfg0) ⟨1, h⟩ t)
    | ⟨2, h⟩ => scalesAt m c t (Pipeline.Dat.unnamed (cfg := cfg0) ⟨2, h⟩ t)
    | ⟨3, _⟩ => O3 c
    | ⟨4, _⟩ => O4 c
    | ⟨5, _⟩ => O5 c
  Φ t := PhiP P c t.val
  q _ := fullShare
  owed _ := 0

variable (P : Plan m) (O3 : Dev nD → Vec F S1x128 .i32) (O4 O5 : Dev nD → Vec F S1x128 .f32)

/-- The proof data's arrays are the ones the region finds. -/
theorem A_eq (c : Dev nD) (w : Fin cfg0.W) : (dats P O3 O4 O5 0 c).A w = V m c (Pipeline.arrRef spec0 w) := by
  dsimp only [dats]

/-- The activations' buffer holds the whole activations at every point. -/
theorem before_0 (c : Dev nD) (t : Fin cfg0.N) (d) : (dats P O3 O4 O5 0 c).before 0 t d = iblk m c 0 t :=
  before0_0_of m (dats P O3 O4 O5 0 c) (A_eq P O3 O4 O5 c 0) (fun t => by dsimp only [dats]) t d

/-- The codes' buffer is fetched at every point. -/
theorem before_1 (c : Dev nD) (t : Fin cfg0.N) (d) : (dats P O3 O4 O5 0 c).before 1 t d = codesAt m c t d := by
  unfold Dat.before; rw [if_pos (fetch0_1 t)]; rfl

/-- The scales' buffer is fetched at every point. -/
theorem before_2 (c : Dev nD) (t : Fin cfg0.N) (d) : (dats P O3 O4 O5 0 c).before 2 t d = scalesAt m c t d := by
  unfold Dat.before; rw [if_pos (fetch0_2 t)]; rfl

/-- The outputs' windows. -/
def outs (w : Fin cfg0.W) : Bool := w.val == 3 || w.val == 4 || w.val == 5

/-- The outputs are idle at every point but the last. -/
theorem idle_out (t : Fin cfg0.N) (h1 : t.val % 75 ≠ 74) : (!(k0_cond2 (grid0.coords t) == 1#1)) = true := by
  have : ¬ cond0_1 (grid0.coords t) := fun h => h1 ((hcond0_1 t).mp h)
  simpa [cond0_1] using this

/-- The outputs are not idle at the last point. -/
theorem live_out (t : Fin cfg0.N) (h1 : t.val % 75 = 74) : (!(k0_cond2 (grid0.coords t) == 1#1)) = false := by
  have := (hcond0_1 t).mpr h1
  simpa [cond0_1] using this

/-- An output's buffer is found at whatever it was handed over with: no point before has written it. -/
theorem before_out {c₀ : Dev nD} (dat : Dat τ (Elt F) Unit ℕ (UR sig nD τ) ℕ cfg0 c₀) (w : Fin cfg0.W) (hf : ∀ t, (cfg0.win w).fetch t = false)
    (hfl : ∀ t : Fin cfg0.N, (cfg0.win w).flush t = true ↔ t.val % 75 = 74)
    (hi : ∀ t : Fin cfg0.N, t.val % 75 ≠ 74 → cfg0.idle w (cfg0.grid.coords t) = true) :
    ∀ (n : ℕ) (hn : n < cfg0.N) (d), dat.before w ⟨n, hn⟩ d = d := by
  intro n
  induction n with
  | zero => intro hn d; unfold Dat.before; rw [hf, if_neg Bool.false_ne_true, if_pos rfl]
  | succ n ih =>
    intro hn d
    have hN : n + 1 < 75 := lt_of_lt_of_eq hn (show cfg0.N = 75 from N_0)
    rw [dat.before_of_pos w ⟨n + 1, hn⟩ (Nat.succ_ne_zero _) (hf _)]
    have hne : ¬ (cfg0.win w).flush ⟨n, Nat.lt_of_succ_lt hn⟩ = true := fun h => by
      have := (hfl _).mp h; simp only at this; omega
    have hid := hi ⟨n, Nat.lt_of_succ_lt hn⟩ (by simp only; omega)
    refine (if_neg hne).trans ?_
    refine Eq.trans ?_ (ih (Nat.lt_of_succ_lt hn) d)
    show dat.left w ⟨n, Nat.lt_of_succ_lt hn⟩ d = _
    unfold Dat.left; rw [hid]

/-- The tokens' buffer is found at whatever it was handed over with. -/
theorem before_3 (c : Dev nD) (t : Fin cfg0.N) (d) : (dats P O3 O4 O5 0 c).before 3 t d = d :=
  before_out _ 3 (fun _ => rfl) flush0_3 (fun t h => idle_out t h) t.val t.isLt d
/-- The tokens are not written back before the last point. -/
theorem flush_3 (t : Fin cfg0.N) (h : t.val % 75 ≠ 74) : (cfg0.win 3).flush t = false := by
  cases hh : (cfg0.win 3).flush t with
  | false => rfl
  | true => exact absurd ((flush0_3 t).mp hh) h

/-- The margins' buffer is found at whatever it was handed over with. -/
theorem before_4 (c : Dev nD) (t : Fin cfg0.N) (d) : (dats P O3 O4 O5 0 c).before 4 t d = d :=
  before_out _ 4 (fun _ => rfl) flush0_4 (fun t h => idle_out t h) t.val t.isLt d
/-- The margins are not written back before the last point. -/
theorem flush_4 (t : Fin cfg0.N) (h : t.val % 75 ≠ 74) : (cfg0.win 4).flush t = false := by
  cases hh : (cfg0.win 4).flush t with
  | false => rfl
  | true => exact absurd ((flush0_4 t).mp hh) h

/-- The top logits' buffer is found at whatever it was handed over with. -/
theorem before_5 (c : Dev nD) (t : Fin cfg0.N) (d) : (dats P O3 O4 O5 0 c).before 5 t d = d :=
  before_out _ 5 (fun _ => rfl) flush0_5 (fun t h => idle_out t h) t.val t.isLt d
/-- The top logits are not written back before the last point. -/
theorem flush_5 (t : Fin cfg0.N) (h : t.val % 75 ≠ 74) : (cfg0.win 5).flush t = false := by
  cases hh : (cfg0.win 5).flush t with
  | false => rfl
  | true => exact absurd ((flush0_5 t).mp hh) h

/-- The body table's row at point `t`'s slots is the body at that point. -/
theorem defs₀_row (t : Fin cfg0.N) :
    defs₀ (F := F) .tc cfg0.body (cfg0.bodyArgs t (cfg0.slots t)) = bodyAt0 t := by
  unfold defs₀; rw [Defs.onTc_tc]

/-- The body obligation with nothing said of the outputs. -/
theorem body_forget (c : Dev nD) :
    BodyObligationLoose (dats P O3 O4 O5 0 c) (defs₀ (F := F)) Variants.none () Set.univ outs := fun t => by
  rw [bigSep_W0, bigSep_W0, defs₀_row]
  simp only [show outs 0 = false from rfl, show outs 1 = false from rfl, show outs 2 = false from rfl, show outs 3 = true from rfl, show outs 4 = true from rfl, show outs 5 = true from rfl]
  rw [show (dats P O3 O4 O5 0 c).owesAt () t.succ = (dats P O3 O4 O5 0 c).owesAt () t.castSucc from rfl]
  rw [show (dats P O3 O4 O5 0 c).Φ t.castSucc = PhiP P c t.val from rfl, show (dats P O3 O4 O5 0 c).Φ t.succ = PhiP P c (t.val + 1) from rfl]
  iintro ⟨HΦ, Ho, ⟨%d0, H0⟩, ⟨%d1, H1⟩, ⟨%d2, H2⟩, ⟨%d3, H3⟩, ⟨%d4, H4⟩, ⟨%d5, H5⟩⟩
  rw [before_0 P O3 O4 O5 c t d0, before_1 P O3 O4 O5 c t d1, before_2 P O3 O4 O5 c t d2]
  by_cases h1 : t.val % 75 = 74
  · iapply (sound_last P c t h1 d1 d2 d3 d4 d5 _)
    isplitl [HΦ]; · iexact HΦ
    isplitl [H0]; · iexact H0
    isplitl [H1]; · iexact H1
    isplitl [H2]; · iexact H2
    isplitl [H3]; · iexact H3
    isplitl [H4]; · iexact H4
    isplitl [H5]; · iexact H5
    iintro ⟨HΦ, H0, H1, H2, ⟨%s, %hs, H3, H4, H5⟩⟩
    isplitl [HΦ]; · iexact HΦ
    isplitl [Ho]; · iexact Ho
    isplitl [H0]; · iexact H0
    isplitl [H1]
    · iexists d1
      change _ ⊢ owns (c : Thread nD τ) (stg1 t) fullShare (win0_1.fill (grid0.coords t) d1 (win0_1.cut (grid0.coords t) (codesAt m c t (Pipeline.Dat.unnamed (cfg := cfg0) 1 t))))
      rw [show win0_1.cut (grid0.coords t) (codesAt m c t (Pipeline.Dat.unnamed (cfg := cfg0) 1 t)) = iblk m c 1 t from win0_1.cut_fill _ _ _]; try iexact H1
    isplitl [H2]
    · iexists d2
      change _ ⊢ owns (c : Thread nD τ) (stg2 t) fullShare (win0_2.fill (grid0.coords t) d2 (win0_2.cut (grid0.coords t) (scalesAt m c t (Pipeline.Dat.unnamed (cfg := cfg0) 2 t))))
      rw [show win0_2.cut (grid0.coords t) (scalesAt m c t (Pipeline.Dat.unnamed (cfg := cfg0) 2 t)) = iblk m c 2 t from win0_2.cut_fill _ _ _]; try iexact H2
    isplitl [H3]; · iexists _; iexact H3
    isplitl [H4]; · iexists _; iexact H4
    iexists _; iexact H5
  · iapply (sound_mid P c t h1 d1 d2 d3 d4 d5 _)
    isplitl [HΦ]; · iexact HΦ
    isplitl [H0]; · iexact H0
    isplitl [H1]; · iexact H1
    isplitl [H2]; · iexact H2
    isplitl [H3]; · iexact H3
    isplitl [H4]; · iexact H4
    isplitl [H5]; · iexact H5
    iintro ⟨HΦ, H0, H1, H2, H3, H4, H5⟩
    isplitl [HΦ]; · iexact HΦ
    isplitl [Ho]; · iexact Ho
    isplitl [H0]; · iexact H0
    isplitl [H1]
    · iexists d1
      change _ ⊢ owns (c : Thread nD τ) (stg1 t) fullShare (win0_1.fill (grid0.coords t) d1 (win0_1.cut (grid0.coords t) (codesAt m c t (Pipeline.Dat.unnamed (cfg := cfg0) 1 t))))
      rw [show win0_1.cut (grid0.coords t) (codesAt m c t (Pipeline.Dat.unnamed (cfg := cfg0) 1 t)) = iblk m c 1 t from win0_1.cut_fill _ _ _]; try iexact H1
    isplitl [H2]
    · iexists d2
      change _ ⊢ owns (c : Thread nD τ) (stg2 t) fullShare (win0_2.fill (grid0.coords t) d2 (win0_2.cut (grid0.coords t) (scalesAt m c t (Pipeline.Dat.unnamed (cfg := cfg0) 2 t))))
      rw [show win0_2.cut (grid0.coords t) (scalesAt m c t (Pipeline.Dat.unnamed (cfg := cfg0) 2 t)) = iblk m c 2 t from win0_2.cut_fill _ _ _]; try iexact H2
    isplitl [H3]; · iexists _; iexact H3
    isplitl [H4]; · iexists _; iexact H4
    iexists _; iexact H5

/-- The body obligation with the outputs named: at the last point every state with the plan's property reads out to them. -/
theorem body_exact (c : Dev nD)
    (hO : ∀ s, P.Inv c 75 s → k0_pay5 s.best s.blk = O3 c ∧ k0_pay6 s.best s.blk s.sec = O4 c ∧ k0_pay4 s.best = O5 c) :
    BodyObligationLoose (dats P O3 O4 O5 0 c) (defs₀ (F := F)) Variants.none () Set.univ := fun t => by
  rw [bigSep_W0, bigSep_W0, defs₀_row]
  simp only
  rw [show (dats P O3 O4 O5 0 c).owesAt () t.succ = (dats P O3 O4 O5 0 c).owesAt () t.castSucc from rfl]
  rw [show (dats P O3 O4 O5 0 c).Φ t.castSucc = PhiP P c t.val from rfl, show (dats P O3 O4 O5 0 c).Φ t.succ = PhiP P c (t.val + 1) from rfl]
  by_cases h1 : t.val % 75 = 74
  · have hl := live_out t h1
    simp only [hl]
    iintro ⟨HΦ, Ho, ⟨%d0, H0⟩, ⟨%d1, H1⟩, ⟨%d2, H2⟩, ⟨%d3, H3⟩, ⟨%d4, H4⟩, ⟨%d5, H5⟩⟩
    rw [before_0 P O3 O4 O5 c t d0, before_1 P O3 O4 O5 c t d1, before_2 P O3 O4 O5 c t d2, before_3 P O3 O4 O5 c t d3, before_4 P O3 O4 O5 c t d4, before_5 P O3 O4 O5 c t d5]
    iapply (sound_last P c t h1 d1 d2 d3 d4 d5 _)
    isplitl [HΦ]; · iexact HΦ
    isplitl [H0]; · iexact H0
    isplitl [H1]; · iexact H1
    isplitl [H2]; · iexact H2
    isplitl [H3]; · iexact H3
    isplitl [H4]; · iexact H4
    isplitl [H5]; · iexact H5
    iintro ⟨HΦ, H0, H1, H2, ⟨%s, %hs, H3, H4, H5⟩⟩
    rw [(hO s hs).1, (hO s hs).2.1, (hO s hs).2.2]
    isplitl [HΦ]; · iexact HΦ
    isplitl [Ho]; · iexact Ho
    isplitl [H0]; · iexact H0
    isplitl [H1]
    · iexists d1
      change _ ⊢ owns (c : Thread nD τ) (stg1 t) fullShare (win0_1.fill (grid0.coords t) d1 (win0_1.cut (grid0.coords t) (codesAt m c t (Pipeline.Dat.unnamed (cfg := cfg0) 1 t))))
      rw [show win0_1.cut (grid0.coords t) (codesAt m c t (Pipeline.Dat.unnamed (cfg := cfg0) 1 t)) = iblk m c 1 t from win0_1.cut_fill _ _ _]; try iexact H1
    isplitl [H2]
    · iexists d2
      change _ ⊢ owns (c : Thread nD τ) (stg2 t) fullShare (win0_2.fill (grid0.coords t) d2 (win0_2.cut (grid0.coords t) (scalesAt m c t (Pipeline.Dat.unnamed (cfg := cfg0) 2 t))))
      rw [show win0_2.cut (grid0.coords t) (scalesAt m c t (Pipeline.Dat.unnamed (cfg := cfg0) 2 t)) = iblk m c 2 t from win0_2.cut_fill _ _ _]; try iexact H2
    isplitl [H3]; · iexact H3
    isplitl [H4]; · iexact H4
    iexact H5
  · have hl := idle_out t h1
    simp only [hl, flush_3 t h1, flush_4 t h1, flush_5 t h1]
    iintro ⟨HΦ, Ho, ⟨%d0, H0⟩, ⟨%d1, H1⟩, ⟨%d2, H2⟩, ⟨%d3, H3⟩, ⟨%d4, H4⟩, ⟨%d5, H5⟩⟩
    rw [before_0 P O3 O4 O5 c t d0, before_1 P O3 O4 O5 c t d1, before_2 P O3 O4 O5 c t d2]
    rw [before_3 P O3 O4 O5 c t d3, before_4 P O3 O4 O5 c t d4, before_5 P O3 O4 O5 c t d5]
    iapply (sound_mid P c t h1 d1 d2 d3 d4 d5 _)
    isplitl [HΦ]; · iexact HΦ
    isplitl [H0]; · iexact H0
    isplitl [H1]; · iexact H1
    isplitl [H2]; · iexact H2
    isplitl [H3]; · iexact H3
    isplitl [H4]; · iexact H4
    isplitl [H5]; · iexact H5
    iintro ⟨HΦ, H0, H1, H2, H3, H4, H5⟩
    isplitl [HΦ]; · iexact HΦ
    isplitl [Ho]; · iexact Ho
    isplitl [H0]; · iexact H0
    isplitl [H1]
    · iexists d1
      change _ ⊢ owns (c : Thread nD τ) (stg1 t) fullShare (win0_1.fill (grid0.coords t) d1 (win0_1.cut (grid0.coords t) (codesAt m c t (Pipeline.Dat.unnamed (cfg := cfg0) 1 t))))
      rw [show win0_1.cut (grid0.coords t) (codesAt m c t (Pipeline.Dat.unnamed (cfg := cfg0) 1 t)) = iblk m c 1 t from win0_1.cut_fill _ _ _]; try iexact H1
    isplitl [H2]
    · iexists d2
      change _ ⊢ owns (c : Thread nD τ) (stg2 t) fullShare (win0_2.fill (grid0.coords t) d2 (win0_2.cut (grid0.coords t) (scalesAt m c t (Pipeline.Dat.unnamed (cfg := cfg0) 2 t))))
      rw [show win0_2.cut (grid0.coords t) (scalesAt m c t (Pipeline.Dat.unnamed (cfg := cfg0) 2 t)) = iblk m c 2 t from win0_2.cut_fill _ _ _]; try iexact H2
    isplitl [H3]; · iexists d3; rw [before_3 P O3 O4 O5 c t d3]; iexact H3
    isplitl [H4]; · iexists d4; rw [before_4 P O3 O4 O5 c t d4]; iexact H4
    iexists d5; rw [before_5 P O3 O4 O5 c t d5]; iexact H5

/-- What the launch hands over is the invariant before the first point. -/
theorem hin (c : Dev nD) : Pipeline.ΦA spec0 c ⊢ (dats P O3 O4 O5 0 c).Φ 0 :=
  Idealize.SL.BI.Entails.refl _

/-- After the last point the invariant gives the scratch back. -/
theorem hout (c : Dev nD) : (dats P O3 O4 O5 0 c).Φ (Fin.last cfg0.N) ⊢ Pipeline.ΦA spec0 c := by
  rw [show (dats P O3 O4 O5 0 c).Φ (Fin.last cfg0.N) = PhiP P c cfg0.N from rfl, PhiP_pos P c (by rw [show cfg0.N = 75 from N_0]; decide), launch_eq]
  iintro ⟨⟨%s, %hs, HS0, HS1, HS2⟩, Hg⟩
  isplitl [HS0 HS1 HS2]
  · isplitl [HS0]
    · iexists _; iexact HS0
    isplitl [HS1]
    · iexists _; iexact HS1
    iexists _; iexact HS2
  iexact Hg

/-! ## The run saying nothing of the outputs, and the frame -/

/-- The buffers the lines after the region write. -/
def T0 : Finset (Ref sig .tc) := {main_v3, main_v4, main_v5}

/-- The lines after the region write none of the buffers but their own results. -/
theorem sfx_writes : ∀ ops ∈ ([hostOps1] : List (List (HloOp τ sig (Elt F)))), ∀ op ∈ ops, ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl
    all_goals
      intro b hb
      simp only [StableHlo.nullary_writes, StableHlo.unary_writes, StableHlo.binary_writes, StableHlo.reshape_writes, Finset.mem_singleton] at hb
      cases Proc.devRef_injective _ hb; decide

set_option backward.isDefEq.respectTransparency.types false in
set_option maxHeartbeats 800000 in
/-- The run, the outputs forgotten: it ends, every input array and every other buffer the tail does not write holds its
    contents at the region's entry, and every semaphore counter is zero. -/
theorem run_forget : θ_run defs (onTc (τ := τ) (main (F := F))) (s₀ m ρ)
    (fun r => (Pipeline.RDat.FramePostR (cfgs 0) (fun c => (dats P O3 O4 O5 0 c).toRForget outs) T0 (V m)) r ∧ r.2.sem = fun _ => 0) :=
  Pipeline.θ_run_frame_around_T_track_forget (Q' := _) cfgs (dats P O3 O4 O5) (0 : Fin 1) launch0 defs₀ Variants.none outs T0 m ρ main
    (hbody := fun c => body_forget P O3 O4 O5 c) (hshare := fun c => (dats P O3 O4 O5 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq P O3 O4 O5) (hin := hin P O3 O4 O5) (hout := hout P O3 O4 O5)

set_option backward.isDefEq.respectTransparency.types false in
set_option maxHeartbeats 800000 in
/-- The run with the outputs named: every array holds what the write-backs leave, every other buffer what the tail leaves. -/
theorem run_exact
    (hO : ∀ c s, P.Inv c 75 s → k0_pay5 s.best s.blk = O3 c ∧ k0_pay6 s.best s.blk s.sec = O4 c ∧ k0_pay4 s.best = O5 c) :
    θ_run defs (onTc (τ := τ) (main (F := F))) (s₀ m ρ)
      (Pipeline.FramePost cfgs (dats P O3 O4 O5) 0 (Pipeline.afterTail₀ cfgs (dats P O3 O4 O5) 0 (V0 m) [hostOps1])) :=
  Pipeline.θ_run_frame_around_track cfgs (dats P O3 O4 O5) (0 : Fin 1) launch0 defs₀ Variants.none m ρ main
    (hbody := fun c => body_exact P O3 O4 O5 c (hO c)) (hshare := fun c => (dats P O3 O4 O5 0 c).share_full fun _ => rfl)
    (howed := fun _ _ => rfl) (V₀ := V0 m) (opss := [hostOps1]) (hsub := sfx_sub) (hfresh := sfx_fresh) (hkeep := sfx_keeps)
    (hmain := hmain m Variants.none) (hA := A_eq P O3 O4 O5) (hin := hin P O3 O4 O5) (hout := hout P O3 O4 O5)

/-- The plan that says nothing. -/
def noPlan : Plan m where
  Inv _ _ _ := True
  first _ _ _ _ _ := trivial
  next _ _ _ _ _ _ _ := trivial

/-- The kernel from any memory with zero counters: it ends, the arguments are unchanged and every counter is zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c =>
    ⟨((h.1 c).2 main_arg0 (Finset.mem_sdiff.mpr ⟨Pipeline.mem_restRefs_of main_arg0 (by decide) (by decide), by decide⟩)).trans (V_main_arg0 m c),
      (Pipeline.RDat.FramePostR.arr_in h.1 c 1 rfl).trans ((A_eq noPlan (fun _ => k0_pay5 (F := F) St.init.best St.init.blk) (fun _ => k0_pay6 (F := F) St.init.best St.init.blk St.init.sec) (fun _ => k0_pay4 (F := F) St.init.best) c 1).trans (V_main_arg1 m c)),
      ((h.1 c).2 main_arg2 (Finset.mem_sdiff.mpr ⟨Pipeline.mem_restRefs_of main_arg2 (by decide) (by decide), by decide⟩)).trans (V_main_arg2 m c)⟩, h.2⟩)
    (run_forget ρ (noPlan (m := m)) (fun _ => k0_pay5 (F := F) St.init.best St.init.blk) (fun _ => k0_pay6 (F := F) St.init.best St.init.blk St.init.sec) (fun _ => k0_pay4 (F := F) St.init.best))

end Cert.KernelIdeal.Gen

end
-- ==== Proof.RefRun.lean ====
/- The reference program run: its operations as a list, and what the three results hold as terms of the arguments. -/
module

public import proofs.«01_k».proof.Proof.Gen.ReferenceIdeal
public import Idealize.ShloMosaic.Lib.StableHlo.Run

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The even and odd columns of the activations, stacked. -/
def joinActs : (⟨S128x1x1x1792, .bf16⟩ : BufTy).Contents (Elt F) → (⟨S128x1x1x1792, .bf16⟩ : BufTy).Contents (Elt F) → (⟨S128x1x2x1792, .bf16⟩ : BufTy).Contents (Elt F) :=
  (fun a b => concatenate S128x1x2x1792 2 [⟨S128x1x1x1792, a⟩, ⟨S128x1x1x1792, b⟩] concatenates_S128x1x1x1792_S128x1x1x1792_S128x1x2x1792_d2)

/-- The low and high codes of a packed half, stacked. -/
def joinCodes : (⟨S19008x1x1792, .i32⟩ : BufTy).Contents (Elt F) → (⟨S19008x1x1792, .i32⟩ : BufTy).Contents (Elt F) → (⟨S19008x2x1792, .i32⟩ : BufTy).Contents (Elt F) :=
  (fun a b => concatenate S19008x2x1792 1 [⟨S19008x1x1792, a⟩, ⟨S19008x1x1792, b⟩] concatenates_S19008x1x1792_S19008x1x1792_S19008x2x1792_d1)

/-- The activations as the reference contracts them: even columns, then odd. -/
def acts (x : Vec F S128x1x3584 .bf16) : Vec F S128x1x2x1792 .bf16 :=
  joinActs (F := F) (broadcastInDim S128x1x1x1792 ![0, 1, 3] bcast_S128x1x1792_S128x1x1x1792_0_1_3 (Host.slice S128x1x1792 ![0, 0, 0] ![1, 1, 2] x slicesBy_S128x1x3584_S128x1x1792_0s1_0s1_0s2))
    (broadcastInDim S128x1x1x1792 ![0, 1, 3] bcast_S128x1x1792_S128x1x1x1792_0_1_3 (Host.slice S128x1x1792 ![0, 0, 1] ![1, 1, 2] x slicesBy_S128x1x3584_S128x1x1792_0s1_0s1_1s2))

/-- The codes of a packed half, low then high, as 32-bit integers. -/
def codes (p : Vec F S19008x1792 .i8) : Vec F S19008x2x1792 .i32 :=
  joinCodes (F := F) (broadcastInDim S19008x1x1792 ![0, 2] bcast_S19008x1792_S19008x1x1792_0_2 (andi (extui 32 p natLt_8_32) (broadcastInDim S19008x1792 ![] bcast_S_S19008x1792 (constantI S_ 32 15#32))))
    (broadcastInDim S19008x1x1792 ![0, 2] bcast_S19008x1792_S19008x1x1792_0_2 (Host.shrsi (extui 32 p natLt_8_32) (broadcastInDim S19008x1792 ![] bcast_S_S19008x1792 (constantI S_ 32 4#32))))

/-- The dequantized weights of a half. -/
def weights (p : Vec F S19008x1792 .i8) (s : Vec F S19008x112 .bf16) : Vec F S19008x2x1792 .bf16 :=
  mulf (subf (sitofp .bf16 (codes p)) (broadcastInDim S19008x2x1792 ![] bcast_S_S19008x2x1792 (constant S_ .bf16 0x4100#16)))
    (broadcastInDim S19008x2x1792 ![0, 1, 2] bcast_S19008x1x1792_S19008x2x1792_0_1_2
      (broadcastInDim S19008x1x1792 ![0, 2] bcast_S19008x1792_S19008x1x1792_0_2
        (shapeCast S19008x1792 (broadcastInDim S19008x112x16 ![0, 1] bcast_S19008x112_S19008x112x16_0_1 s) shapeCasts_S19008x112x16_S19008x1792)))

/-- The logits of a half. -/
def logits (x : Vec F S128x1x3584 .bf16) (p : Vec F S19008x1792 .i8) (s : Vec F S19008x112 .bf16) : Vec F S128x1x19008 .f32 :=
  Host.dotGeneral dot_S128x1x2x1792_S19008x2x1792_S128x1x19008_32_21_01_0_n_n none (acts x) (weights p s)

/-- The largest logit of each row. -/
def best (L : Vec F S128x1x19008 .f32) : Vec F S128x1 .f32 :=
  Host.reduce FloatOps.maximumf L (constant S_ .f32 0xFF800000#32) reducesTo_S128x1x19008_S128x1_d2 h_S_

/-- The column of the largest logit of each row. -/
def token (L : Vec F S128x1x19008 .f32) : Vec F S128x1 .i32 := fun j =>
  (Host.argReduce reducer_argmax_f32_i32 L (iotaInDim S128x1x19008 32 2) (constant S_ .f32 0xFF800000#32) (constantI S_ 32 0#32) reducesTo_S128x1x19008_S128x1_d2 h_S_ j).2

/-- The largest logit of each row once the column `token` names is set to minus infinity. -/
def second (L : Vec F S128x1x19008 .f32) (t : Vec F S128x1 .i32) : Vec F S128x1 .f32 :=
  best (select (cmpi .eq (iotaInDim S128x1x19008 32 2) (broadcastInDim S128x1x19008 ![0, 1, 2] bcast_S128x1x1_S128x1x19008_0_1_2 (broadcastInDim S128x1x1 ![0, 1] bcast_S128x1_S128x1x1_0_1 t)))
    (broadcastInDim S128x1x19008 ![] bcast_S_S128x1x19008 (id (constant S_ .f32 0xFF800000#32))) L)

/-- The logits of the first half of the vocabulary. -/
def logitsLo (x : Vec F S128x1x3584 .bf16) (p : Vec F S38016x1792 .i8) (s : Vec F S38016x112 .bf16) : Vec F S128x1x19008 .f32 :=
  logits x (extractStridedSlice S19008x1792 ![0, 0] p slices_S38016x1792_S19008x1792_0_0) (extractStridedSlice S19008x112 ![0, 0] s slices_S38016x112_S19008x112_0_0)

/-- The logits of the second half of the vocabulary. -/
def logitsHi (x : Vec F S128x1x3584 .bf16) (p : Vec F S38016x1792 .i8) (s : Vec F S38016x112 .bf16) : Vec F S128x1x19008 .f32 :=
  logits x (extractStridedSlice S19008x1792 ![19008, 0] p slices_S38016x1792_S19008x1792_19008_0) (extractStridedSlice S19008x112 ![19008, 0] s slices_S38016x112_S19008x112_19008_0)

/-- The token of the whole vocabulary, from the two halves' logits. -/
def outToken (A B : Vec F S128x1x19008 .f32) : Vec F S128x1 .i32 :=
  select (cmpf .oge (best A) (best B)) (token A) (addi (token B) (broadcastInDim S128x1 ![] bcast_S_S128x1 (constantI S_ 32 19008#32)))

/-- The largest logit of the whole vocabulary. -/
def outTop (A B : Vec F S128x1x19008 .f32) : Vec F S128x1 .f32 := maximumf (best A) (best B)

/-- The largest logit less the second largest. -/
def outMargin (A B : Vec F S128x1x19008 .f32) : Vec F S128x1 .f32 :=
  subf (outTop A B) (maximumf (minimumf (best A) (best B)) (maximumf (second A (token A)) (second B (token B))))

/-- The program's operations, in order, each called function's in its call's place. -/
abbrev ops : List (HloOp τ sig (Elt F)) :=
  [ unary main_arg0 main_v0 ((Host.slice S128x1x1792 ![0, 0, 0] ![1, 1, 2] · slicesBy_S128x1x3584_S128x1x1792_0s1_0s1_0s2) : (⟨S128x1x3584, .bf16⟩ : BufTy).Contents (Elt F) → (⟨S128x1x1792, .bf16⟩ : BufTy).Contents (Elt F)),
    unary main_arg0 main_v1 ((Host.slice S128x1x1792 ![0, 0, 1] ![1, 1, 2] · slicesBy_S128x1x3584_S128x1x1792_0s1_0s1_1s2) : (⟨S128x1x3584, .bf16⟩ : BufTy).Contents (Elt F) → (⟨S128x1x1792, .bf16⟩ : BufTy).Contents (Elt F)),
    unary main_v0 main_v2 (broadcastInDim S128x1x1x1792 ![0, 1, 3] bcast_S128x1x1792_S128x1x1x1792_0_1_3 : (⟨S128x1x1792, .bf16⟩ : BufTy).Contents (Elt F) → (⟨S128x1x1x1792, .bf16⟩ : BufTy).Contents (Elt F)),
    unary main_v1 main_v3 (broadcastInDim S128x1x1x1792 ![0, 1, 3] bcast_S128x1x1792_S128x1x1x1792_0_1_3 : (⟨S128x1x1792, .bf16⟩ : BufTy).Contents (Elt F) → (⟨S128x1x1x1792, .bf16⟩ : BufTy).Contents (Elt F)),
    binary main_v2 main_v3 main_v4 (joinActs (F := F)),
    unary main_arg1 main_v5 ((extractStridedSlice S19008x1792 ![0, 0] · slices_S38016x1792_S19008x1792_0_0) : (⟨S38016x1792, .i8⟩ : BufTy).Contents (Elt F) → (⟨S19008x1792, .i8⟩ : BufTy).Contents (Elt F)),
    unary main_arg2 main_v6 ((extractStridedSlice S19008x112 ![0, 0] · slices_S38016x112_S19008x112_0_0) : (⟨S38016x112, .bf16⟩ : BufTy).Contents (Elt F) → (⟨S19008x112, .bf16⟩ : BufTy).Contents (Elt F)),
    unary main_v5 main_v7 ((extui 32 · natLt_8_32) : (⟨S19008x1792, .i8⟩ : BufTy).Contents (Elt F) → (⟨S19008x1792, .i32⟩ : BufTy).Contents (Elt F)),
    nullary main_c (constantI S_ 32 15#32),
    unary main_c main_v8 (broadcastInDim S19008x1792 ![] bcast_S_S19008x1792 : (⟨S_, .i32⟩ : BufTy).Contents (Elt F) → (⟨S19008x1792, .i32⟩ : BufTy).Contents (Elt F)),
    binary main_v7 main_v8 main_v9 (andi : (⟨S19008x1792, .i32⟩ : BufTy).Contents (Elt F) → (⟨S19008x1792, .i32⟩ : BufTy).Contents (Elt F) → (⟨S19008x1792, .i32⟩ : BufTy).Contents (Elt F)),
    nullary main_c_0 (constantI S_ 32 4#32),
    unary main_c_0 main_v10 (broadcastInDim S19008x1792 ![] bcast_S_S19008x1792 : (⟨S_, .i32⟩ : BufTy).Contents (Elt F) → (⟨S19008x1792, .i32⟩ : BufTy).Contents (Elt F)),
    binary main_v7 main_v10 main_v11 (Host.shrsi : (⟨S19008x1792, .i32⟩ : BufTy).Contents (Elt F) → (⟨S19008x1792, .i32⟩ : BufTy).Contents (Elt F) → (⟨S19008x1792, .i32⟩ : BufTy).Contents (Elt F)),
    unary main_v9 main_v12 (broadcastInDim S19008x1x1792 ![0, 2] bcast_S19008x1792_S19008x1x1792_0_2 : (⟨S19008x1792, .i32⟩ : BufTy).Contents (Elt F) → (⟨S19008x1x1792, .i32⟩ : BufTy).Contents (Elt F)),
    unary main_v11 main_v13 (broadcastInDim S19008x1x1792 ![0, 2] bcast_S19008x1792_S19008x1x1792_0_2 : (⟨S19008x1792, .i32⟩ : BufTy).Contents (Elt F) → (⟨S19008x1x1792, .i32⟩ : BufTy).Contents (Elt F)),
    binary main_v12 main_v13 main_v14 (joinCodes (F := F)),
    unary main_v6 main_v15 (broadcastInDim S19008x112x16 ![0, 1] bcast_S19008x112_S19008x112x16_0_1 : (⟨S19008x112, .bf16⟩ : BufTy).Contents (Elt F) → (⟨S19008x112x16, .bf16⟩ : BufTy).Contents (Elt F)),
    reshape main_v15 main_v16 (rfl : (.bf16 : EltTy) = .bf16) shapeCasts_S19008x112x16_S19008x1792,
    unary main_v14 main_v17 (sitofp .bf16 : (⟨S19008x2x1792, .i32⟩ : BufTy).Contents (Elt F) → (⟨S19008x2x1792, .bf16⟩ : BufTy).Contents (Elt F)),
    nullary main_cst (constant S_ .bf16 0x4100#16),
    unary main_cst main_v18 (broadcastInDim S19008x2x1792 ![] bcast_S_S19008x2x1792 : (⟨S_, .bf16⟩ : BufTy).Contents (Elt F) → (⟨S19008x2x1792, .bf16⟩ : BufTy).Contents (Elt F)),
    binary main_v17 main_v18 main_v19 (subf : (⟨S19008x2x1792, .bf16⟩ : BufTy).Contents (Elt F) → (⟨S19008x2x1792, .bf16⟩ : BufTy).Contents (Elt F) → (⟨S19008x2x1792, .bf16⟩ : BufTy).Contents (Elt F)),
    unary main_v16 main_v20 (broadcastInDim S19008x1x1792 ![0, 2] bcast_S19008x1792_S19008x1x1792_0_2 : (⟨S19008x1792, .bf16⟩ : BufTy).Contents (Elt F) → (⟨S19008x1x1792, .bf16⟩ : BufTy).Contents (Elt F)),
    unary main_v20 main_v21 (broadcastInDim S19008x2x1792 ![0, 1, 2] bcast_S19008x1x1792_S19008x2x1792_0_1_2 : (⟨S19008x1x1792, .bf16⟩ : BufTy).Contents (Elt F) → (⟨S19008x2x1792, .bf16⟩ : BufTy).Contents (Elt F)),
    binary main_v19 main_v21 main_v22 (mulf : (⟨S19008x2x1792, .bf16⟩ : BufTy).Contents (Elt F) → (⟨S19008x2x1792, .bf16⟩ : BufTy).Contents (Elt F) → (⟨S19008x2x1792, .bf16⟩ : BufTy).Contents (Elt F)),
    binary main_v4 main_v22 main_v23 ((fun l r => Host.dotGeneral dot_S128x1x2x1792_S19008x2x1792_S128x1x19008_32_21_01_0_n_n none l r) : (⟨S128x1x2x1792, .bf16⟩ : BufTy).Contents (Elt F) → (⟨S19008x2x1792, .bf16⟩ : BufTy).Contents (Elt F) → (⟨S128x1x19008, .f32⟩ : BufTy).Contents (Elt F)),
    nullary main_cst_1 (constant S_ .f32 0xFF800000#32),
    binary main_v23 main_cst_1 main_v24 ((fun x v => Host.reduce FloatOps.maximumf x v reducesTo_S128x1x19008_S128x1_d2 h_S_) : (⟨S128x1x19008, .f32⟩ : BufTy).Contents (Elt F) → (⟨S_, .f32⟩ : BufTy).Contents (Elt F) → (⟨S128x1, .f32⟩ : BufTy).Contents (Elt F)),
    TRef.nullary (TRef.of (T := ⟨S128x1x19008, .i32⟩) main_call0_v0) (iotaInDim S128x1x19008 32 2),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S128x1x19008, .f32⟩) main_v23) (TRef.of (T := ⟨S128x1x19008, .i32⟩) main_call0_v0) (TRef.of (T := ⟨S_, .f32⟩) main_call0_cst) (TRef.of (T := ⟨S_, .i32⟩) main_call0_c) (TRef.of (T := ⟨S128x1, .f32⟩) main_call0_v1_0) (fun x y u v j => (Host.argReduce reducer_argmax_f32_i32 x y u v reducesTo_S128x1x19008_S128x1_d2 h_S_ j).1),
    TRef.quaternary (TRef.of (T := ⟨S128x1x19008, .f32⟩) main_v23) (TRef.of (T := ⟨S128x1x19008, .i32⟩) main_call0_v0) (TRef.of (T := ⟨S_, .f32⟩) main_call0_cst) (TRef.of (T := ⟨S_, .i32⟩) main_call0_c) (TRef.of (T := ⟨S128x1, .i32⟩) main_v25) (fun x y u v j => (Host.argReduce reducer_argmax_f32_i32 x y u v reducesTo_S128x1x19008_S128x1_d2 h_S_ j).2),
    nullary main_v26 (iotaInDim S128x1x19008 32 2),
    unary main_v25 main_v27 (broadcastInDim S128x1x1 ![0, 1] bcast_S128x1_S128x1x1_0_1 : (⟨S128x1, .i32⟩ : BufTy).Contents (Elt F) → (⟨S128x1x1, .i32⟩ : BufTy).Contents (Elt F)),
    unary main_v27 main_v28 (broadcastInDim S128x1x19008 ![0, 1, 2] bcast_S128x1x1_S128x1x19008_0_1_2 : (⟨S128x1x1, .i32⟩ : BufTy).Contents (Elt F) → (⟨S128x1x19008, .i32⟩ : BufTy).Contents (Elt F)),
    binary main_v26 main_v28 main_v29 (cmpi .eq : (⟨S128x1x19008, .i32⟩ : BufTy).Contents (Elt F) → (⟨S128x1x19008, .i32⟩ : BufTy).Contents (Elt F) → (⟨S128x1x19008, .i1⟩ : BufTy).Contents (Elt F)),
    nullary main_cst_2 (constant S_ .f32 0xFF800000#32),
    TRef.unary (TRef.of (T := ⟨S_, .f32⟩) main_cst_2) (TRef.of (T := ⟨S_, .f32⟩) main_call1_v0) id,
    TRef.unary (TRef.of (T := ⟨S_, .f32⟩) main_call1_v0) (TRef.of (T := ⟨S128x1x19008, .f32⟩) main_call1_v1) (broadcastInDim S128x1x19008 ![] bcast_S_S128x1x19008),
    TRef.ternary (TRef.of (T := ⟨S128x1x19008, .i1⟩) main_v29) (TRef.of (T := ⟨S128x1x19008, .f32⟩) main_call1_v1) (TRef.of (T := ⟨S128x1x19008, .f32⟩) main_v23) (TRef.of (T := ⟨S128x1x19008, .f32⟩) main_v30) select,
    nullary main_cst_3 (constant S_ .f32 0xFF800000#32),
    binary main_v30 main_cst_3 main_v31 ((fun x v => Host.reduce FloatOps.maximumf x v reducesTo_S128x1x19008_S128x1_d2 h_S_) : (⟨S128x1x19008, .f32⟩ : BufTy).Contents (Elt F) → (⟨S_, .f32⟩ : BufTy).Contents (Elt F) → (⟨S128x1, .f32⟩ : BufTy).Contents (Elt F)),
    unary main_arg1 main_v32 ((extractStridedSlice S19008x1792 ![19008, 0] · slices_S38016x1792_S19008x1792_19008_0) : (⟨S38016x1792, .i8⟩ : BufTy).Contents (Elt F) → (⟨S19008x1792, .i8⟩ : BufTy).Contents (Elt F)),
    unary main_arg2 main_v33 ((extractStridedSlice S19008x112 ![19008, 0] · slices_S38016x112_S19008x112_19008_0) : (⟨S38016x112, .bf16⟩ : BufTy).Contents (Elt F) → (⟨S19008x112, .bf16⟩ : BufTy).Contents (Elt F)),
    unary main_v32 main_v34 ((extui 32 · natLt_8_32) : (⟨S19008x1792, .i8⟩ : BufTy).Contents (Elt F) → (⟨S19008x1792, .i32⟩ : BufTy).Contents (Elt F)),
    nullary main_c_4 (constantI S_ 32 15#32),
    unary main_c_4 main_v35 (broadcastInDim S19008x1792 ![] bcast_S_S19008x1792 : (⟨S_, .i32⟩ : BufTy).Contents (Elt F) → (⟨S19008x1792, .i32⟩ : BufTy).Contents (Elt F)),
    binary main_v34 main_v35 main_v36 (andi : (⟨S19008x1792, .i32⟩ : BufTy).Contents (Elt F) → (⟨S19008x1792, .i32⟩ : BufTy).Contents (Elt F) → (⟨S19008x1792, .i32⟩ : BufTy).Contents (Elt F)),
    nullary main_c_5 (constantI S_ 32 4#32),
    unary main_c_5 main_v37 (broadcastInDim S19008x1792 ![] bcast_S_S19008x1792 : (⟨S_, .i32⟩ : BufTy).Contents (Elt F) → (⟨S19008x1792, .i32⟩ : BufTy).Contents (Elt F)),
    binary main_v34 main_v37 main_v38 (Host.shrsi : (⟨S19008x1792, .i32⟩ : BufTy).Contents (Elt F) → (⟨S19008x1792, .i32⟩ : BufTy).Contents (Elt F) → (⟨S19008x1792, .i32⟩ : BufTy).Contents (Elt F)),
    unary main_v36 main_v39 (broadcastInDim S19008x1x1792 ![0, 2] bcast_S19008x1792_S19008x1x1792_0_2 : (⟨S19008x1792, .i32⟩ : BufTy).Contents (Elt F) → (⟨S19008x1x1792, .i32⟩ : BufTy).Contents (Elt F)),
    unary main_v38 main_v40 (broadcastInDim S19008x1x1792 ![0, 2] bcast_S19008x1792_S19008x1x1792_0_2 : (⟨S19008x1792, .i32⟩ : BufTy).Contents (Elt F) → (⟨S19008x1x1792, .i32⟩ : BufTy).Contents (Elt F)),
    binary main_v39 main_v40 main_v41 (joinCodes (F := F)),
    unary main_v33 main_v42 (broadcastInDim S19008x112x16 ![0, 1] bcast_S19008x112_S19008x112x16_0_1 : (⟨S19008x112, .bf16⟩ : BufTy).Contents (Elt F) → (⟨S19008x112x16, .bf16⟩ : BufTy).Contents (Elt F)),
    reshape main_v42 main_v43 (rfl : (.bf16 : EltTy) = .bf16) shapeCasts_S19008x112x16_S19008x1792,
    unary main_v41 main_v44 (sitofp .bf16 : (⟨S19008x2x1792, .i32⟩ : BufTy).Contents (Elt F) → (⟨S19008x2x1792, .bf16⟩ : BufTy).Contents (Elt F)),
    nullary main_cst_6 (constant S_ .bf16 0x4100#16),
    unary main_cst_6 main_v45 (broadcastInDim S19008x2x1792 ![] bcast_S_S19008x2x1792 : (⟨S_, .bf16⟩ : BufTy).Contents (Elt F) → (⟨S19008x2x1792, .bf16⟩ : BufTy).Contents (Elt F)),
    binary main_v44 main_v45 main_v46 (subf : (⟨S19008x2x1792, .bf16⟩ : BufTy).Contents (Elt F) → (⟨S19008x2x1792, .bf16⟩ : BufTy).Contents (Elt F) → (⟨S19008x2x1792, .bf16⟩ : BufTy).Contents (Elt F)),
    unary main_v43 main_v47 (broadcastInDim S19008x1x1792 ![0, 2] bcast_S19008x1792_S19008x1x1792_0_2 : (⟨S19008x1792, .bf16⟩ : BufTy).Contents (Elt F) → (⟨S19008x1x1792, .bf16⟩ : BufTy).Contents (Elt F)),
    unary main_v47 main_v48 (broadcastInDim S19008x2x1792 ![0, 1, 2] bcast_S19008x1x1792_S19008x2x1792_0_1_2 : (⟨S19008x1x1792, .bf16⟩ : BufTy).Contents (Elt F) → (⟨S19008x2x1792, .bf16⟩ : BufTy).Contents (Elt F)),
    binary main_v46 main_v48 main_v49 (mulf : (⟨S19008x2x1792, .bf16⟩ : BufTy).Contents (Elt F) → (⟨S19008x2x1792, .bf16⟩ : BufTy).Contents (Elt F) → (⟨S19008x2x1792, .bf16⟩ : BufTy).Contents (Elt F)),
    binary main_v4 main_v49 main_v50 ((fun l r => Host.dotGeneral dot_S128x1x2x1792_S19008x2x1792_S128x1x19008_32_21_01_0_n_n none l r) : (⟨S128x1x2x1792, .bf16⟩ : BufTy).Contents (Elt F) → (⟨S19008x2x1792, .bf16⟩ : BufTy).Contents (Elt F) → (⟨S128x1x19008, .f32⟩ : BufTy).Contents (Elt F)),
    nullary main_cst_7 (constant S_ .f32 0xFF800000#32),
    binary main_v50 main_cst_7 main_v51 ((fun x v => Host.reduce FloatOps.maximumf x v reducesTo_S128x1x19008_S128x1_d2 h_S_) : (⟨S128x1x19008, .f32⟩ : BufTy).Contents (Elt F) → (⟨S_, .f32⟩ : BufTy).Contents (Elt F) → (⟨S128x1, .f32⟩ : BufTy).Contents (Elt F)),
    TRef.nullary (TRef.of (T := ⟨S128x1x19008, .i32⟩) main_call2_v0) (iotaInDim S128x1x19008 32 2),
    TRef.nullary (TRef.of (T := ⟨S_, .f32⟩) main_call2_cst) (constant S_ .f32 0xFF800000#32),
    TRef.nullary (TRef.of (T := ⟨S_, .i32⟩) main_call2_c) (constantI S_ 32 0#32),
    TRef.quaternary (TRef.of (T := ⟨S128x1x19008, .f32⟩) main_v50) (TRef.of (T := ⟨S128x1x19008, .i32⟩) main_call2_v0) (TRef.of (T := ⟨S_, .f32⟩) main_call2_cst) (TRef.of (T := ⟨S_, .i32⟩) main_call2_c) (TRef.of (T := ⟨S128x1, .f32⟩) main_call2_v1_0) (fun x y u v j => (Host.argReduce reducer_argmax_f32_i32 x y u v reducesTo_S128x1x19008_S128x1_d2 h_S_ j).1),
    TRef.quaternary (TRef.of (T := ⟨S128x1x19008, .f32⟩) main_v50) (TRef.of (T := ⟨S128x1x19008, .i32⟩) main_call2_v0) (TRef.of (T := ⟨S_, .f32⟩) main_call2_cst) (TRef.of (T := ⟨S_, .i32⟩) main_call2_c) (TRef.of (T := ⟨S128x1, .i32⟩) main_v52) (fun x y u v j => (Host.argReduce reducer_argmax_f32_i32 x y u v reducesTo_S128x1x19008_S128x1_d2 h_S_ j).2),
    nullary main_v53 (iotaInDim S128x1x19008 32 2),
    unary main_v52 main_v54 (broadcastInDim S128x1x1 ![0, 1] bcast_S128x1_S128x1x1_0_1 : (⟨S128x1, .i32⟩ : BufTy).Contents (Elt F) → (⟨S128x1x1, .i32⟩ : BufTy).Contents (Elt F)),
    unary main_v54 main_v55 (broadcastInDim S128x1x19008 ![0, 1, 2] bcast_S128x1x1_S128x1x19008_0_1_2 : (⟨S128x1x1, .i32⟩ : BufTy).Contents (Elt F) → (⟨S128x1x19008, .i32⟩ : BufTy).Contents (Elt F)),
    binary main_v53 main_v55 main_v56 (cmpi .eq : (⟨S128x1x19008, .i32⟩ : BufTy).Contents (Elt F) → (⟨S128x1x19008, .i32⟩ : BufTy).Contents (Elt F) → (⟨S128x1x19008, .i1⟩ : BufTy).Contents (Elt F)),
    nullary main_cst_8 (constant S_ .f32 0xFF800000#32),
    TRef.unary (TRef.of (T := ⟨S_, .f32⟩) main_cst_8) (TRef.of (T := ⟨S_, .f32⟩) main_call3_v0) id,
    TRef.unary (TRef.of (T := ⟨S_, .f32⟩) main_call3_v0) (TRef.of (T := ⟨S128x1x19008, .f32⟩) main_call3_v1) (broadcastInDim S128x1x19008 ![] bcast_S_S128x1x19008),
    TRef.ternary (TRef.of (T := ⟨S128x1x19008, .i1⟩) main_v56) (TRef.of (T := ⟨S128x1x19008, .f32⟩) main_call3_v1) (TRef.of (T := ⟨S128x1x19008, .f32⟩) main_v50) (TRef.of (T := ⟨S128x1x19008, .f32⟩) main_v57) select,
    nullary main_cst_9 (constant S_ .f32 0xFF800000#32),
    binary main_v57 main_cst_9 main_v58 ((fun x v => Host.reduce FloatOps.maximumf x v reducesTo_S128x1x19008_S128x1_d2 h_S_) : (⟨S128x1x19008, .f32⟩ : BufTy).Contents (Elt F) → (⟨S_, .f32⟩ : BufTy).Contents (Elt F) → (⟨S128x1, .f32⟩ : BufTy).Contents (Elt F)),
    binary main_v24 main_v51 main_v59 (cmpf .oge : (⟨S128x1, .f32⟩ : BufTy).Contents (Elt F) → (⟨S128x1, .f32⟩ : BufTy).Contents (Elt F) → (⟨S128x1, .i1⟩ : BufTy).Contents (Elt F)),
    nullary main_c_10 (constantI S_ 32 19008#32),
    unary main_c_10 main_v60 (broadcastInDim S128x1 ![] bcast_S_S128x1 : (⟨S_, .i32⟩ : BufTy).Contents (Elt F) → (⟨S128x1, .i32⟩ : BufTy).Contents (Elt F)),
    binary main_v52 main_v60 main_v61 (addi : (⟨S128x1, .i32⟩ : BufTy).Contents (Elt F) → (⟨S128x1, .i32⟩ : BufTy).Contents (Elt F) → (⟨S128x1, .i32⟩ : BufTy).Contents (Elt F)),
    TRef.ternary (TRef.of (T := ⟨S128x1, .i1⟩) main_v59) (TRef.of (T := ⟨S128x1, .i32⟩) main_v25) (TRef.of (T := ⟨S128x1, .i32⟩) main_v61) (TRef.of (T := ⟨S128x1, .i32⟩) main_v62) select,
    binary main_v24 main_v51 main_v63 (maximumf : (⟨S128x1, .f32⟩ : BufTy).Contents (Elt F) → (⟨S128x1, .f32⟩ : BufTy).Contents (Elt F) → (⟨S128x1, .f32⟩ : BufTy).Contents (Elt F)),
    binary main_v24 main_v51 main_v64 (minimumf : (⟨S128x1, .f32⟩ : BufTy).Contents (Elt F) → (⟨S128x1, .f32⟩ : BufTy).Contents (Elt F) → (⟨S128x1, .f32⟩ : BufTy).Contents (Elt F)),
    binary main_v31 main_v58 main_v65 (maximumf : (⟨S128x1, .f32⟩ : BufTy).Contents (Elt F) → (⟨S128x1, .f32⟩ : BufTy).Contents (Elt F) → (⟨S128x1, .f32⟩ : BufTy).Contents (Elt F)),
    binary main_v64 main_v65 main_v66 (maximumf : (⟨S128x1, .f32⟩ : BufTy).Contents (Elt F) → (⟨S128x1, .f32⟩ : BufTy).Contents (Elt F) → (⟨S128x1, .f32⟩ : BufTy).Contents (Elt F)),
    binary main_v63 main_v66 main_v67 (subf : (⟨S128x1, .f32⟩ : BufTy).Contents (Elt F) → (⟨S128x1, .f32⟩ : BufTy).Contents (Elt F) → (⟨S128x1, .f32⟩ : BufTy).Contents (Elt F)) ]

set_option maxRecDepth 8192 in
set_option maxHeartbeats 4000000 in
/-- The reference is its list of host operations in order. -/
theorem main_eq (c : Dev nD) : main (F := F) c = seq ops := rfl
/-- The reference declares no scoped buffer. -/
theorem scopedRefs_eq : (Finset.univ.filter fun b : Ref sig .tc => b.isScoped) = ∅ := by decide
/-- The reference declares no scoped semaphore. -/
theorem scopedSems_eq : (Finset.univ.filter fun sm : SemLoc sig => sm.isScoped .tc) = ∅ := by decide
set_option maxRecDepth 8192 in
/-- Each operation touches the device's own buffers only. -/
theorem ops_sub : (ops : List (HloOp τ sig (Elt F))).Forall fun op => op.bufs ⊆ tcRefs τ sig :=
  ⟨unary_bufs_sub .., unary_bufs_sub .., unary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., reshape_bufs_sub .., unary_bufs_sub .., nullary_bufs_sub .., unary_bufs_sub .., binary_bufs_sub .., unary_bufs_sub .., unary_bufs_sub .., binary_bufs_sub .., binary_bufs_sub .., nullary_bufs_sub .., binary_bufs_sub .., nullary_bufs_sub .., nullary_bufs_sub .., nullary_bufs_sub .., quaternary_bufs_sub .., quaternary_bufs_sub .., nullary_bufs_sub .., unary_bufs_sub .., unary_bufs_sub .., binary_bufs_sub .., nullary_bufs_sub .., unary_bufs_sub .., unary_bufs_sub .., ternary_bufs_sub .., nullary_bufs_sub .., binary_bufs_sub .., unary_bufs_sub .., unary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., reshape_bufs_sub .., unary_bufs_sub .., nullary_bufs_sub .., unary_bufs_sub .., binary_bufs_sub .., unary_bufs_sub .., unary_bufs_sub .., binary_bufs_sub .., binary_bufs_sub .., nullary_bufs_sub .., binary_bufs_sub .., nullary_bufs_sub .., nullary_bufs_sub .., nullary_bufs_sub .., quaternary_bufs_sub .., quaternary_bufs_sub .., nullary_bufs_sub .., unary_bufs_sub .., unary_bufs_sub .., binary_bufs_sub .., nullary_bufs_sub .., unary_bufs_sub .., unary_bufs_sub .., ternary_bufs_sub .., nullary_bufs_sub .., binary_bufs_sub .., binary_bufs_sub .., nullary_bufs_sub .., unary_bufs_sub .., binary_bufs_sub .., ternary_bufs_sub .., binary_bufs_sub .., binary_bufs_sub .., binary_bufs_sub .., binary_bufs_sub .., binary_bufs_sub ..⟩

/-- The first half's logits at device `c`'s arguments. -/
abbrev lo (m : (ℓ : Loc nD τ sig) → Buf (Elt F) ℓ) (c : Dev nD) : Vec F S128x1x19008 .f32 := logitsLo (m ((c.tc : Thread nD τ).loc main_arg0)) (m ((c.tc : Thread nD τ).loc main_arg1)) (m ((c.tc : Thread nD τ).loc main_arg2))
/-- The second half's logits at device `c`'s arguments. -/
abbrev hi (m : (ℓ : Loc nD τ sig) → Buf (Elt F) ℓ) (c : Dev nD) : Vec F S128x1x19008 .f32 := logitsHi (m ((c.tc : Thread nD τ).loc main_arg0)) (m ((c.tc : Thread nD τ).loc main_arg1)) (m ((c.tc : Thread nD τ).loc main_arg2))

set_option maxRecDepth 8192 in
set_option maxHeartbeats 40400000 in
/-- From any memory with zero counters the reference ends, its results at the terms named, the arguments unchanged and
    every counter zero. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v62) = outToken (lo m c) (hi m c)
      ∧ r.2.mem ((c.tc : Thread nD τ).loc main_v67) = outMargin (lo m c) (hi m c)
      ∧ r.2.mem ((c.tc : Thread nD τ).loc main_v63) = outTop (lo m c) (hi m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
      (h c main_v62).trans (by simp only [ops, TRef.nullary, TRef.ternary, TRef.quaternary, TRef.unary, TRef.toBuf, TRef.ofBuf, cast_eq]; after_results_simp <;> rfl),
      (h c main_v67).trans (by simp only [ops, TRef.nullary, TRef.ternary, TRef.quaternary, TRef.unary, TRef.toBuf, TRef.ofBuf, cast_eq]; after_results_simp <;> rfl),
      (h c main_v63).trans (by simp only [ops, TRef.nullary, TRef.ternary, TRef.quaternary, TRef.unary, TRef.toBuf, TRef.ofBuf, cast_eq]; after_results_simp <;> rfl),
      (h c main_arg0).trans (by simp only [ops, TRef.nullary, TRef.ternary, TRef.quaternary, TRef.unary, TRef.toBuf, TRef.ofBuf, cast_eq]; after_results_simp <;> rfl),
      (h c main_arg1).trans (by simp only [ops, TRef.nullary, TRef.ternary, TRef.quaternary, TRef.unary, TRef.toBuf, TRef.ofBuf, cast_eq]; after_results_simp <;> rfl),
      (h c main_arg2).trans (by simp only [ops, TRef.nullary, TRef.ternary, TRef.quaternary, TRef.unary, TRef.toBuf, TRef.ofBuf, cast_eq]; after_results_simp <;> rfl)⟩)
    (run_seq scopedRefs_eq scopedSems_eq defs main (fun _ => ops) main_eq (fun _ => ops_sub) m ρ)

end Cert.ReferenceIdeal.Value

end
-- ==== Proof.Same.lean ====
/- The kernel and its idealization are one program: every definition of the one is the other's. -/
module

public import proofs.«01_k».proof.Proof.Gen.Kernel.Frame
public import proofs.«01_k».proof.Proof.Gen.KernelIdeal.Frame

@[expose] public section

noncomputable section

namespace Cert.Proof
open Idealize.ShloMosaic Idealize.SL.Sem
variable {F : FTy → Type} [FloatOps F]

set_option maxRecDepth 65536 in
/-- The two programs' @main are the same. -/
theorem main_same : Cert.Kernel.main (F := F)  = Cert.KernelIdeal.main (F := F) := rfl

set_option maxRecDepth 65536 in
/-- The two programs' kernel tables are the same. -/
theorem defs0_same : Cert.Kernel.defs₀ (F := F) = Cert.KernelIdeal.defs₀ (F := F) := by
  unfold Cert.Kernel.defs₀ Cert.KernelIdeal.defs₀
  refine congrArg Defs.onTc ?_
  funext i a
  match i, a with
  | 0, (t, s) => rfl

set_option maxRecDepth 65536 in
/-- The two programs' body tables are the same. -/
theorem defs_same : Cert.Kernel.defs (F := F) = Cert.KernelIdeal.defs (F := F) := by
  unfold Cert.Kernel.defs Cert.KernelIdeal.defs
  rw [defs0_same]
  rfl

end Cert.Proof
end
-- ==== Proof.Blocks.lean ====
/- What the body reads: the three windows' blocks at a point, entry by entry, in terms of the launched arguments. -/
module

public import proofs.«01_k».proof.Proof.FrameK
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Gen

open Idealize.ShloMosaic Idealize.ShloMosaic.TcCoe Idealize.ShloMosaic.Tactic Idealize.ShloMosaic.Pointwise
open Idealize.SL.Sem

variable {F : FTy → Type} [FloatOps F]
variable (m : (ℓ : Loc nD τ sig) → Buf (Elt F) ℓ)

/-- The activations as launched. -/
abbrev argX (c : Dev nD) : Vec F S128x1x3584 .bf16 := m ((c.tc : Thread nD τ).loc main_arg0)
/-- The packed codes as launched. -/
abbrev argP (c : Dev nD) : Vec F S38016x1792 .i8 := m ((c.tc : Thread nD τ).loc main_arg1)
/-- The scales as launched. -/
abbrev argS (c : Dev nD) : Vec F S38016x112 .bf16 := m ((c.tc : Thread nD τ).loc main_arg2)

/-- The region finds the activations reshaped to a matrix. -/
theorem V_main_v0 (c : Dev nD) : V m c main_v0 = shapeCast S128x3584 (argX m c) shapeCasts_S128x1x3584_S128x3584 := by
  show StableHlo.after hostOps0 (fun b => m (c, b)) (Proc.devRef .tc main_v0) = _
  simp only [StableHlo.after_cons, StableHlo.after_nil]
  refine (StableHlo.unary_result_ne (x := main_arg2) (y := main_v1) (r := main_v0) _ _ _ _ (by decide)).trans ?_
  exact (StableHlo.reshape_result main_arg0 main_v0 _ _ _ _ _).trans rfl

/-- The region finds the scales transposed. -/
theorem V_main_v1 (c : Dev nD) : V m c main_v1 = transpose S112x38016 [1, 0] (argS m c) transposes_S38016x112_S112x38016_1_0 := by
  unfold_abbrev_sides
  after_results
  rfl

/-- The grid's one coordinate at point `t` is `t`. -/
theorem coords_val : ∀ t : Fin cfg0.N, (grid0.coords t 0).val = t.val := by decide +kernel

/-- The activations' block is always the first. -/
theorem index_0 : ∀ t : Fin cfg0.N, win0_0.index t 0 = 0 ∧ win0_0.index t 1 = 0 := by decide +kernel
/-- The codes' block at point `t` is number `t` down the rows. -/
theorem index_1 : ∀ t : Fin cfg0.N, win0_1.index t 0 = t.val ∧ win0_1.index t 1 = 0 := by decide +kernel
/-- The scales' block at point `t` is number `t` along the columns. -/
theorem index_2 : ∀ t : Fin cfg0.N, win0_2.index t 0 = 0 ∧ win0_2.index t 1 = t.val := by decide +kernel
/-- How many rows and columns of the codes' block lie inside the array. -/
theorem xsize_1 : ∀ t : Fin cfg0.N, win0_1.xsize (grid0.coords t) 0 = min 512 (38016 - 512 * t.val) ∧ win0_1.xsize (grid0.coords t) 1 = 1792 := by decide +kernel
/-- How many rows and columns of the scales' block lie inside the array. -/
theorem xsize_2 : ∀ t : Fin cfg0.N, win0_2.xsize (grid0.coords t) 0 = 112 ∧ win0_2.xsize (grid0.coords t) 1 = min 512 (38016 - 512 * t.val) := by decide +kernel

/-- The activations' block at a point is the activations. -/
theorem x_apply (c : Dev nD) (t : Fin cfg0.N) (r : Fin 128) (k : Fin 3584) :
    (iblk m c 0 t : Vec F S128x3584 .bf16) (ix2 r k) = argX m c (ix3 r 0 k) := by
  have e : (iblk m c 0 t : Vec F S128x3584 .bf16) (ix2 r k) = (V m c main_v0 : Vec F S128x3584 .bf16) ((win0_0.rect t).emb (ix2 r k)) := rfl
  have hi : ((win0_0.rect t).emb (ix2 r k) : S128x3584.Idx) = ix2 r k :=
    Shape.idx_ext₂ ((win0_0.rect_emb_val t _ 0).trans (by rw [(index_0 t).1]; simp)) ((win0_0.rect_emb_val t _ 1).trans (by rw [(index_0 t).2]; simp))
  rw [e, hi, V_main_v0]
  pointwise

/-- A row of the codes' block inside the array is the array's. -/
theorem p_apply (c : Dev nD) (t : Fin cfg0.N) (d : Vec F S512x1792 .i8) (q : Fin 512) (k : Fin 1792) (h : 512 * t.val + q.val < 38016) :
    codesAt m c t d (ix2 q k) = argP m c (ix2 ⟨512 * t.val + q.val, h⟩ k) := by
  have hm : win0_1.moved (grid0.coords t) (ix2 q k) = true := (win0_1.moved_iff _ _).mpr (Fin.forall_fin_two.mpr
    ⟨by rw [(xsize_1 t).1]; show q.val < _; omega, by rw [(xsize_1 t).2]; exact k.isLt⟩)
  refine (dif_pos hm).trans ?_
  have e : ∀ j, iblk m c 1 t j = (V m c main_arg1 : Vec F S38016x1792 .i8) ((win0_1.rect t).emb j) := fun _ => rfl
  rw [e, V_main_arg1]
  refine congrArg (argP m c) (Shape.idx_ext₂ ((win0_1.rect_emb_val t _ 0).trans ?_) ((win0_1.rect_emb_val t _ 1).trans ?_))
  · rw [(index_1 t).1]; show t.val * 512 + q.val = 512 * t.val + q.val; omega
  · rw [(index_1 t).2]; show 0 * 1792 + k.val = k.val; omega

/-- A column of the scales' block inside the array is a row of the scales. -/
theorem s_apply (c : Dev nD) (t : Fin cfg0.N) (d : Vec F S112x512 .bf16) (g : Fin 112) (q : Fin 512) (h : 512 * t.val + q.val < 38016) :
    scalesAt m c t d (ix2 g q) = argS m c (ix2 ⟨512 * t.val + q.val, h⟩ g) := by
  have hm : win0_2.moved (grid0.coords t) (ix2 g q) = true := (win0_2.moved_iff _ _).mpr (Fin.forall_fin_two.mpr
    ⟨by rw [(xsize_2 t).1]; exact g.isLt, by rw [(xsize_2 t).2]; show q.val < _; omega⟩)
  refine (dif_pos hm).trans ?_
  have e : ∀ j, iblk m c 2 t j = (V m c main_v1 : Vec F S112x38016 .bf16) ((win0_2.rect t).emb j) := fun _ => rfl
  rw [e, V_main_v1]
  refine (congrArg (transpose S112x38016 [1, 0] (argS m c) transposes_S38016x112_S112x38016_1_0) (show _ = ix2 g ⟨512 * t.val + q.val, h⟩ from
    Shape.idx_ext₂ ((win0_2.rect_emb_val t _ 0).trans ?_) ((win0_2.rect_emb_val t _ 1).trans ?_))).trans ?_
  · rw [(index_2 t).1]; show 0 * 112 + g.val = g.val; omega
  · rw [(index_2 t).2]; show t.val * 512 + q.val = 512 * t.val + q.val; omega
  · pointwise

end Cert.KernelIdeal.Gen
end
-- ==== Proof.Spec.lean ====
/- The value both programs compute a logit to be, over the extended reals. -/
module

public import Idealize.ShloMosaic.Lib.Pointwise
public import Idealize.ShloMosaic.Lib.IdealHost
public import Idealize.ShloMosaic.PureOps.Ideal.Laws

@[expose] public section

set_option maxRecDepth 16384

noncomputable section

namespace Cert.Spec

open Idealize.ShloMosaic

/-- The value of a 4-bit code: the low nibble of the word at place 0, the high nibble elsewhere, less eight. -/
def code (w : BitVec 8) (h : ℕ) : EReal :=
  ((((if h = 0 then w.toNat % 16 else w.toNat / 16 : ℕ) : ℤ) - 8 : ℤ) : ℝ)

/-- The logit of one row `x` of activations with one vocabulary row, whose 3584 codes are packed two to a word in `p`
    and whose scales `s` serve 32 columns each. -/
def logit (x : Fin 3584 → EReal) (p : Fin 1792 → BitVec 8) (s : Fin 112 → EReal) : EReal :=
  ∑ k : Fin 3584, x k * (code (p ⟨k.val / 2, by omega⟩) (k.val % 2) * s ⟨k.val / 32, by omega⟩)

/-- Flipping the top bit of a nibble and reading it signed subtracts eight: the low nibble … -/
theorem signed_lo (w : BitVec 8) :
    (((BitVec.setWidth 4 (BitVec.setWidth 32 (IntOp.xori w 136#8))).toInt : ℝ) : EReal) = code w 0 := by
  have : ∀ w : BitVec 8, (BitVec.setWidth 4 (BitVec.setWidth 32 (IntOp.xori w 136#8))).toInt = ((w.toNat % 16 : ℕ) : ℤ) - 8 := by
    decide +kernel
  rw [this, code, if_pos rfl]

/-- … and the high one. -/
theorem signed_hi (w : BitVec 8) :
    (((BitVec.setWidth 4 (IntOp.shrsi ArithUnit.vector (BitVec.setWidth 32 (IntOp.xori w 136#8)) 4#32)).toInt : ℝ) : EReal)
      = code w 1 := by
  have : ∀ w : BitVec 8, (BitVec.setWidth 4 (IntOp.shrsi ArithUnit.vector (BitVec.setWidth 32 (IntOp.xori w 136#8)) 4#32)).toInt
      = ((w.toNat / 16 : ℕ) : ℤ) - 8 := by
    decide +kernel
  rw [this, code, if_neg (by decide)]

/-- The bf16 word of the offset is eight. -/
theorem ofBits_eight : Ideal.ofBits .bf16 0x4100#16 = ((8 : ℝ) : EReal) := by
  simp [Ideal.ofBits, Ideal.ieee, -EReal.coe_mul]; norm_num

/-- Masking a word to its low nibble and subtracting eight: the low code … -/
theorem masked_lo (w : BitVec 8) :
    (((IntOp.andi (BitVec.setWidth 32 w) 15#32).toInt : ℝ) : EReal) - Ideal.ofBits .bf16 0x4100#16 = code w 0 := by
  have : ∀ w : BitVec 8, (IntOp.andi (BitVec.setWidth 32 w) 15#32).toInt = ((w.toNat % 16 : ℕ) : ℤ) := by decide +kernel
  rw [this, ofBits_eight, code, if_pos rfl, ← EReal.coe_sub]
  push_cast
  rfl

/-- … and shifting it down by four, the high code. -/
theorem masked_hi (w : BitVec 8) :
    (((IntOp.shrsi ArithUnit.host (BitVec.setWidth 32 w) 4#32).toInt : ℝ) : EReal) - Ideal.ofBits .bf16 0x4100#16 = code w 1 := by
  have : ∀ w : BitVec 8, (IntOp.shrsi ArithUnit.host (BitVec.setWidth 32 w) 4#32).toInt = ((w.toNat / 16 : ℕ) : ℤ) := by
    decide +kernel
  rw [this, ofBits_eight, code, if_neg (by decide), ← EReal.coe_sub]
  push_cast
  rfl

/-- The f32 word of minus infinity is the least extended real. -/
theorem ofBits_bot : Ideal.ofBits .f32 0xFF800000#32 = ⊥ := by
  simp [Ideal.ofBits, Ideal.ieee]

/-- A maximum from minus infinity is below `z` exactly when every entry is. -/
theorem foldMax_le {n : ℕ} (f : Fin n → EReal) (z : EReal) :
    Finset.univ.fold max (Ideal.ofBits .f32 0xFF800000#32) f ≤ z ↔ ∀ v, f v ≤ z := by
  rw [Finset.fold_max_le, ofBits_bot]
  simp

/-- A signed minimum is the starting word or an entry, and no entry is below it. -/
theorem foldMin_spec {n : ℕ} (b : BitVec 32) (f : Fin n → BitVec 32) :
    (Finset.univ.fold IntOp.minsi b f = b ∨ ∃ v, Finset.univ.fold IntOp.minsi b f = f v)
      ∧ ∀ v, (Finset.univ.fold IntOp.minsi b f).toInt ≤ (f v).toInt := by
  have step (x y : BitVec 32) : (IntOp.minsi x y = x ∨ IntOp.minsi x y = y)
      ∧ (IntOp.minsi x y).toInt ≤ x.toInt ∧ (IntOp.minsi x y).toInt ≤ y.toInt := by
    unfold IntOp.minsi
    split
    case isTrue h =>
      simp only [BitVec.slt, decide_eq_true_eq, BitVec.sle] at h
      exact ⟨.inl rfl, le_rfl, by omega⟩
    case isFalse h =>
      simp only [BitVec.slt, decide_eq_true_eq, BitVec.sle] at h
      exact ⟨.inr rfl, by omega, le_rfl⟩
  have key (t : Finset (Fin n)) : (t.fold IntOp.minsi b f = b ∨ ∃ v, t.fold IntOp.minsi b f = f v)
      ∧ ∀ v ∈ t, (t.fold IntOp.minsi b f).toInt ≤ (f v).toInt := by
    induction t using Finset.induction_on with
    | empty => exact ⟨.inl rfl, by simp⟩
    | insert a t ha ih =>
      rw [Finset.fold_insert ha]
      obtain ⟨s1, s2, s3⟩ := step (f a) (t.fold IntOp.minsi b f)
      refine ⟨?_, fun v hv => ?_⟩
      · rcases s1 with h | h
        · exact .inr ⟨a, h⟩
        · rw [h]
          exact ih.1
      · rcases Finset.mem_insert.1 hv with rfl | hv
        · exact s2
        · exact s3.trans (ih.2 v hv)
  exact ⟨(key _).1, fun v => (key _).2 v (Finset.mem_univ v)⟩

end Cert.Spec

end
-- ==== Proof.LogitK.lean ====
/- The kernel's logits over the extended reals: a tile's element is one sum over the 3584 contracted elements. -/
module

public import proofs.«01_k».proof.Proof.Step
public import proofs.«01_k».proof.Proof.Spec

@[expose] public section

set_option maxRecDepth 16384

noncomputable section

namespace Cert.KernelIdeal.Gen

open Idealize.ShloMosaic Idealize.ShloMosaic.TcCoe Idealize.ShloMosaic.Pointwise Cert.Spec

/-- A chunk's codes as numbers: row `r` of the chunk is the code at place `r % 2` of word `r / 2`. -/
theorem pay12_apply (p : Vec Ideal S256x128 .i8) (r c : Fin 256) :
    k0_pay12 (F := Ideal) p (ix2 r c) = code (p (ix2 c ⟨r.val / 2, by omega⟩)) (r.val % 2) := by
  pointwise [k0_pay12]
  split
  case isTrue h =>
    exact (signed_lo _).trans (congrArg (code _) (by omega))
  case isFalse h =>
    exact (signed_hi _).trans (congrArg (code _) (by omega))

/-- A scaled row at an entry: the code there times its group's scale. -/
theorem scaled_apply (sc : FVec Ideal S112x512 .bf16) (q : FVec Ideal S256x256 .bf16) (t k g : ℕ) (ht : t < 2) (hk : k < 14)
    (hg : g < 8) (r : Fin 32) (c : Fin 256) :
    scaled sc q t k g ht hk hg (ix2 r c)
      = q (ix2 ⟨32 * g + r.val, by omega⟩ c) * sc (ix2 ⟨8 * k + g, by omega⟩ ⟨256 * t + c.val, by omega⟩) := by
  pointwise [scaled]

/-- The chunk's product of activations and weights, at an element. -/
theorem dot_apply (x : FVec Ideal S128x256 .bf16) (q : FVec Ideal S256x256 .bf16) (r : Fin 128) (c : Fin 256) :
    matmul (F := Ideal) dot_S128x256_S256x256_S128x256_1_0_0_1_n_n none x q (constant S128x256 .f32 0x00000000#32) (ix2 r c) =
     ∑ k : Fin 256, x (ix2 r k) * q (ix2 k c) := by
  pointwise []

/-- The dequantized weights of chunk `k` of tile `t`: each code times its group's scale. -/
theorem weights_apply (sc : FVec Ideal S112x512 .bf16) (p : Vec Ideal S256x128 .i8) (t k : ℕ) (ht : t < 2) (hk : k < 14)
    (r c : Fin 256) :
    weights sc p t k ht hk (ix2 r c) = code (p (ix2 c ⟨r.val / 2, by omega⟩)) (r.val % 2)
      * sc (ix2 ⟨8 * k + r.val / 32, by omega⟩ ⟨256 * t + c.val, by omega⟩) := by
  rw [← pay12_apply]
  have key (g : ℕ) (hg : g < 8) (v : ℕ) (hv : v < 32) (e : 32 * g + v = r.val) :
      scaled sc (k0_pay12 p) t k g ht hk hg (ix2 ⟨v, hv⟩ c)
        = k0_pay12 (F := Ideal) p (ix2 r c) * sc (ix2 ⟨8 * k + r.val / 32, by omega⟩ ⟨256 * t + c.val, by omega⟩) := by
    rw [scaled_apply]
    have e1 : (⟨32 * g + v, by omega⟩ : Fin 256) = r := Fin.ext e
    have e2 : (⟨8 * k + g, by omega⟩ : Fin 112) = ⟨8 * k + r.val / 32, by omega⟩ := Fin.ext (by show 8 * k + g = 8 * k + r.val / 32; omega)
    simp only [e1, e2]
  pointwise [weights]
  split_ifs
  all_goals exact key _ _ _ _ (by omega)

/-- A tile's logits after `n` chunks, at an element. -/
theorem accTo_apply (sc : FVec Ideal S112x512 .bf16) (P : (t k : ℕ) → t < 2 → k < 14 → Vec Ideal S256x128 .i8)
    (X : (k : ℕ) → k < 14 → Vec Ideal S128x256 .bf16) (t : ℕ) (ht : t < 2) (r : Fin 128) (c : Fin 256) (n : ℕ) (hn : n ≤ 14) :
    accTo sc P X t ht n hn (ix2 r c)
      = ∑ j : Fin n, ∑ i : Fin 256, X j.val (by omega) (ix2 r i)
          * (code (P t j.val ht (by omega) (ix2 c ⟨i.val / 2, by omega⟩)) (i.val % 2)
            * sc (ix2 ⟨8 * j.val + i.val / 32, by omega⟩ ⟨256 * t + c.val, by omega⟩)) := by
  induction n with
  | zero =>
    show Ideal.ofBits .f32 0x00000000#32 = _
    rw [Ideal.ofBits_zero_f32]
    rfl
  | succ n ih =>
    rw [Fin.sum_univ_castSucc]
    show accTo sc P X t ht n _ (ix2 r c) + _ = _
    rw [ih (by omega), dot_apply]
    congr 1
    refine Finset.sum_congr rfl fun i _ => ?_
    rw [weights_apply]
    congr 1
    pointwise []
    rfl

/-- A tile's logit is the logit of its row of activations and its column's words and scales. -/
theorem tileLogits_apply (x0 : Vec Ideal S128x3584 .bf16) (x1 : Vec Ideal S512x1792 .i8) (x2 : Vec Ideal S112x512 .bf16)
    (t : ℕ) (ht : t < 2) (r : Fin 128) (c : Fin 256) :
    tileLogits x0 x1 x2 t ht (ix2 r c)
      = logit (fun k => x0 (ix2 r k)) (fun d => x1 (ix2 ⟨256 * t + c.val, by omega⟩ d))
          (fun g => x2 (ix2 g ⟨256 * t + c.val, by omega⟩)) := by
  rw [tileLogits, accTo_apply, logit, Fin.sum_univ_tiles 14 256 rfl]
  refine Finset.sum_congr rfl fun j _ => Finset.sum_congr rfl fun i _ => ?_
  pointwise [packedAt, actAt, k0_pay10]
  have e1 : (j.val * 256 + i.val) % 2 = i.val % 2 := by omega
  have e2 : (⟨(j.val * 256 + i.val) / 2, by omega⟩ : Fin 1792) = ⟨128 * j.val + i.val / 2, by omega⟩ :=
    Fin.ext (by show (j.val * 256 + i.val) / 2 = 128 * j.val + i.val / 2; omega)
  have e3 : (⟨(j.val * 256 + i.val) / 32, by omega⟩ : Fin 112) = ⟨8 * j.val + i.val / 32, by omega⟩ :=
    Fin.ext (by show (j.val * 256 + i.val) / 32 = 8 * j.val + i.val / 32; omega)
  have e4 : (⟨j.val * 256 + i.val, by omega⟩ : Fin 3584) = ⟨256 * j.val + i.val, by omega⟩ :=
    Fin.ext (by show j.val * 256 + i.val = 256 * j.val + i.val; omega)
  simp only [e1, e2, e3, e4]

end Cert.KernelIdeal.Gen
end
-- ==== Proof.Top2.lean ====
/- The two largest entries of a finite sequence of extended reals, as a specification, and three ways to reach it:
   entry by entry, lane by lane, and half by half. -/
module

public import Mathlib.Data.EReal.Basic

@[expose] public section

namespace Cert.Top2

/-- Among the first `n` entries of `a`: `tok` is the first position of the largest entry, `top` is that entry, and
    `sec` is the largest entry at any other position (minus infinity if there is none). -/
structure Is (a : ℕ → EReal) (n tok : ℕ) (top sec : EReal) : Prop where
  lt : tok < n
  at_tok : a tok = top
  le_top : ∀ v < n, a v ≤ top
  first : ∀ v < tok, a v ≠ top
  sec_le : ∀ z, sec ≤ z ↔ ∀ v < n, v ≠ tok → a v ≤ z

/-- The three values are determined by the sequence. -/
theorem Is.unique {a : ℕ → EReal} {n t t' : ℕ} {p p' s s' : EReal} (h : Is a n t p s) (h' : Is a n t' p' s') :
    t = t' ∧ p = p' ∧ s = s' := by
  have hp : p = p' := le_antisymm (h.at_tok ▸ h'.le_top _ h.lt) (h'.at_tok ▸ h.le_top _ h'.lt)
  subst hp
  have ht : t = t' := by
    rcases lt_trichotomy t t' with c | c | c
    · exact absurd h.at_tok (h'.first _ c)
    · exact c
    · exact absurd h'.at_tok (h.first _ c)
  subst ht
  exact ⟨rfl, rfl, le_antisymm ((h.sec_le _).2 ((h'.sec_le _).1 le_rfl)) ((h'.sec_le _).2 ((h.sec_le _).1 le_rfl))⟩

/-- The specification depends only on the entries it ranges over. -/
theorem Is.congr {a b : ℕ → EReal} {n t : ℕ} {p s : EReal} (h : Is a n t p s) (e : ∀ v < n, a v = b v) : Is b n t p s where
  lt := h.lt
  at_tok := (e _ h.lt) ▸ h.at_tok
  le_top v hv := (e v hv) ▸ h.le_top v hv
  first v hv := (e v (hv.trans h.lt)) ▸ h.first v hv
  sec_le z := (h.sec_le z).trans ⟨fun k v hv ne => (e v hv) ▸ k v hv ne, fun k v hv ne => (e v hv).symm ▸ k v hv ne⟩

/-- The state of a running scan: nothing seen yet, or the two largest entries of what was seen. -/
def Scan (a : ℕ → EReal) (n tok : ℕ) (top sec : EReal) : Prop :=
  (n = 0 ∧ tok = 0 ∧ top = ⊥ ∧ sec = ⊥) ∨ Is a n tok top sec

/-- One more entry: the scan compares it with the largest so far and keeps the smaller of the two for second place. -/
theorem Scan.step {a : ℕ → EReal} {n t : ℕ} {p s : EReal} (h : Scan a n t p s) :
    Is a (n + 1) (if a n > p then n else t) (max p (a n)) (max s (min p (a n))) := by
  rcases h with ⟨rfl, rfl, rfl, rfl⟩ | h
  · have e : (if a 0 > ⊥ then 0 else 0) = 0 := by split <;> rfl
    rw [e]
    refine ⟨by omega, by simp, fun v hv => ?_, fun v hv => absurd hv (by omega), fun z => ?_⟩
    · obtain rfl : v = 0 := by omega
      simp
    · simp only [bot_le, inf_of_le_left, max_self, true_iff]
      intro v hv ne
      omega
  · by_cases c : a n > p
    · rw [if_pos c, max_eq_right c.le, min_eq_left c.le]
      have hs : s ≤ p := (h.sec_le p).2 fun v hv _ => h.le_top v hv
      rw [max_eq_right hs]
      refine ⟨by omega, rfl, fun v hv => ?_, fun v hv => ((h.le_top v hv).trans_lt c).ne, fun z => ⟨fun k v hv ne => ?_, fun k => ?_⟩⟩
      · rcases Nat.lt_succ_iff_lt_or_eq.1 hv with hv | rfl
        · exact (h.le_top v hv).trans c.le
        · exact le_rfl
      · exact (h.le_top v (by omega)).trans k
      · exact h.at_tok ▸ k t (by have := h.lt; omega) (by have := h.lt; omega)
    · rw [if_neg c]
      have c' : a n ≤ p := not_lt.1 c
      rw [max_eq_left c', min_eq_right c']
      refine ⟨by have := h.lt; omega, h.at_tok, fun v hv => ?_, h.first, fun z => ?_⟩
      · rcases Nat.lt_succ_iff_lt_or_eq.1 hv with hv | rfl
        · exact h.le_top v hv
        · exact c'
      · rw [max_le_iff, h.sec_le]
        refine ⟨fun k v hv ne => ?_, fun k => ⟨fun v hv ne => k v (by omega) ne, k n (by omega) (by have := h.lt; omega)⟩⟩
        rcases Nat.lt_succ_iff_lt_or_eq.1 hv with hv | rfl
        · exact k.1 v hv ne
        · exact k.2

/-- `w` lanes, each scanned over its `m` entries (lane `l` holds the entries at positions `w * b + l`), give the two
    largest of the whole: the first position is the least among the lanes that reach the largest entry, and second
    place is the largest after that lane's first place is replaced by its own second place. -/
theorem Is.lanes {a : ℕ → EReal} {m w : ℕ} (hw : 0 < w) {blk : ℕ → ℕ} {best sec : ℕ → EReal}
    (h : ∀ l < w, Is (fun b => a (w * b + l)) m (blk l) (best l) (sec l)) {tok : ℕ} {top sd : EReal}
    (htop : ∀ z, top ≤ z ↔ ∀ l < w, best l ≤ z)
    (hex : ∃ l < w, best l = top ∧ tok = blk l * w + l)
    (hmin : ∀ l < w, best l = top → tok ≤ blk l * w + l)
    (hsd : ∀ z, sd ≤ z ↔ ∀ l < w, (if blk l * w + l = tok then sec l else best l) ≤ z) :
    Is a (m * w) tok top sd := by
  obtain ⟨l0, hl0, hb0, rfl⟩ := hex
  have pos (v : ℕ) (hv : v < m * w) : v % w < w ∧ v / w < m ∧ w * (v / w) + v % w = v :=
    ⟨Nat.mod_lt _ hw, Nat.div_lt_of_lt_mul (by rwa [Nat.mul_comm] at hv), Nat.div_add_mod v w⟩
  have inj (b b' l l' : ℕ) (hl : l < w) (hl' : l' < w) (e : b * w + l = b' * w + l') : b = b' ∧ l = l' := by
    have e1 : (b * w + l) % w = (b' * w + l') % w := by rw [e]
    rw [Nat.mul_add_mod', Nat.mul_add_mod', Nat.mod_eq_of_lt hl, Nat.mod_eq_of_lt hl'] at e1
    subst e1
    exact ⟨Nat.eq_of_mul_eq_mul_right hw (by omega), rfl⟩
  have ub := (htop top).1 le_rfl
  refine ⟨?_, ?_, fun v hv => ?_, fun v hv => ?_, fun z => ?_⟩
  · have h1 := (h l0 hl0).lt
    calc blk l0 * w + l0 < blk l0 * w + w := by omega
      _ = (blk l0 + 1) * w := by ring
      _ ≤ m * w := Nat.mul_le_mul_right w h1
  · have := (h l0 hl0).at_tok
    rw [← hb0, ← this, Nat.mul_comm]
  · obtain ⟨p1, p2, p3⟩ := pos v hv
    have := (h _ p1).le_top _ p2
    simp only [p3] at this
    exact this.trans (ub _ p1)
  · intro e
    have hvm : v < m * w := by
      have h1 := (h l0 hl0).lt
      calc v < blk l0 * w + w := by omega
        _ = (blk l0 + 1) * w := by ring
        _ ≤ m * w := Nat.mul_le_mul_right w h1
    obtain ⟨p1, p2, p3⟩ := pos v hvm
    have k1 := (h _ p1).le_top _ p2
    simp only [p3] at k1
    have k2 : best (v % w) = top := le_antisymm (ub _ p1) (e ▸ k1)
    have k3 := hmin _ p1 k2
    have k4 : ¬ v / w < blk (v % w) := fun c => by
      have := (h _ p1).first _ c
      simp only [p3] at this
      exact this (e.trans k2.symm)
    have k5 := Nat.mul_le_mul_right w (not_lt.1 k4)
    have := Nat.div_add_mod v w
    rw [Nat.mul_comm] at this
    omega
  · rw [hsd]
    refine ⟨fun k v hv ne => ?_, fun k l hl => ?_⟩
    · obtain ⟨p1, p2, p3⟩ := pos v hv
      have k1 := k _ p1
      have k2 := (h _ p1).le_top _ p2
      simp only [p3] at k2
      split at k1
      case isTrue c =>
        have k3 := ((h _ p1).sec_le z).1 k1 _ p2 fun e => ne (by
          rw [← c, ← e, Nat.mul_comm]
          exact p3.symm)
        simpa only [p3] using k3
      case isFalse c => exact k2.trans k1
    · split
      case isTrue c =>
        refine ((h l hl).sec_le z).2 fun b hb ne => k _ ?_ fun e => ?_
        · calc w * b + l < w * b + w := by omega
            _ = (b + 1) * w := by ring
            _ ≤ m * w := Nat.mul_le_mul_right w hb
        · rw [Nat.mul_comm] at e
          exact ne ((inj _ _ _ _ hl hl (e.trans c.symm)).1)
      case isFalse c =>
        rw [← (h l hl).at_tok]
        refine k _ ?_ fun e => c ?_
        · have hb := (h l hl).lt
          calc w * blk l + l < w * blk l + w := by omega
            _ = (blk l + 1) * w := by ring
            _ ≤ m * w := Nat.mul_le_mul_right w hb
        · rw [← e, Nat.mul_comm]

/-- The two largest of two halves put together: the first half wins ties. -/
theorem Is.merge {a : ℕ → EReal} {n t u : ℕ} {p q s r : EReal} (h : Is a n t p s)
    (h' : Is (fun v => a (n + v)) n u q r) :
    Is a (n + n) (if p ≥ q then t else u + n) (max p q) (max (min p q) (max s r)) := by
  have split (z : EReal) : (∀ v < n + n, a v ≤ z) ↔ (∀ v < n, a v ≤ z) ∧ ∀ v < n, a (n + v) ≤ z :=
    ⟨fun k => ⟨fun v hv => k v (by omega), fun v hv => k _ (by omega)⟩, fun k v hv => by
      by_cases c : v < n
      · exact k.1 v c
      · have := k.2 (v - n) (by omega)
        rwa [show n + (v - n) = v by omega] at this⟩
  have hs : s ≤ p := (h.sec_le p).2 fun v hv _ => h.le_top v hv
  have hr : r ≤ q := (h'.sec_le q).2 fun v hv _ => h'.le_top v hv
  by_cases c : p ≥ q
  · rw [if_pos c, max_eq_left c, min_eq_right c]
    refine ⟨by have := h.lt; omega, h.at_tok, (split p).2 ⟨h.le_top, fun v hv => (h'.le_top v hv).trans c⟩, h.first, fun z => ?_⟩
    rw [max_le_iff, max_le_iff, h.sec_le]
    refine ⟨fun ⟨k1, k2, _⟩ v hv ne => ?_, fun k => ⟨?_, fun v hv ne => k v (by omega) ne, ?_⟩⟩
    · by_cases cv : v < n
      · exact k2 v cv ne
      · have := h'.le_top (v - n) (by omega)
        simp only [show n + (v - n) = v by omega] at this
        exact this.trans k1
    · rw [← h'.at_tok]
      exact k _ (by have := h'.lt; omega) (by have := h.lt; omega)
    · refine hr.trans ?_
      rw [← h'.at_tok]
      exact k _ (by have := h'.lt; omega) (by have := h.lt; omega)
  · rw [if_neg c]
    have c' : p < q := not_le.1 c
    rw [max_eq_right c'.le, min_eq_left c'.le]
    refine ⟨by have := h'.lt; omega, ?_, (split q).2 ⟨fun v hv => (h.le_top v hv).trans c'.le, h'.le_top⟩, fun v hv => ?_, fun z => ?_⟩
    · rw [Nat.add_comm]; exact h'.at_tok
    · by_cases cv : v < n
      · exact ((h.le_top v cv).trans_lt c').ne
      · have := h'.first (v - n) (by omega)
        simpa only [show n + (v - n) = v by omega] using this
    · rw [max_le_iff, max_le_iff, h'.sec_le]
      refine ⟨fun ⟨k1, _, k3⟩ v hv ne => ?_, fun k => ⟨?_, ?_, fun v hv ne => k _ (by omega) (by omega)⟩⟩
      · by_cases cv : v < n
        · exact (h.le_top v cv).trans k1
        · have := k3 (v - n) (by omega) (by omega)
          simpa only [show n + (v - n) = v by omega] using this
      · rw [← h.at_tok]
        exact k _ (by have := h.lt; omega) (by have := h.lt; omega)
      · refine hs.trans ?_
        rw [← h.at_tok]
        exact k _ (by have := h.lt; omega) (by have := h.lt; omega)

end Cert.Top2
-- ==== Proof.TopK.lean ====
/- The kernel's readout over the extended reals: from right per-lane states it takes the two largest logits. -/
module

public import proofs.«01_k».proof.Proof.LogitK
public import proofs.«01_k».proof.Proof.Top2

@[expose] public section

set_option maxRecDepth 16384

noncomputable section

namespace Cert.KernelIdeal.Gen

open Idealize.ShloMosaic Idealize.ShloMosaic.TcCoe Idealize.ShloMosaic.Pointwise Cert.Spec

/-- The top logit read out for row `r` is the largest over the lanes. -/
theorem pay4_apply (best : Vec Ideal S128x128 .f32) (r : Fin 128) :
    k0_pay4 (F := Ideal) best (ix2 0 r) = Finset.univ.fold max (Ideal.ofBits .f32 0xFF800000#32) (fun l : Fin 128 => best (ix2 r l)) := by
  pointwise [k0_pay4, k0_pay2]

/-- The vocabulary index of a lane: its block times 128 plus the lane. -/
theorem pay3_apply (blk : Vec Ideal S128x128 .i32) (l r : Fin 128) :
    k0_pay3 (F := Ideal) blk (ix2 l r) = blk (ix2 r l) * 128#32 + BitVec.ofNat 32 l.val := by
  pointwise [k0_pay3]
  rfl

/-- The token read out for row `r` is the least index among the lanes that reach the top. -/
theorem pay5_apply (best : Vec Ideal S128x128 .f32) (blk : Vec Ideal S128x128 .i32) (r : Fin 128) :
    k0_pay5 (F := Ideal) best blk (ix2 0 r) = Finset.univ.fold IntOp.minsi 2147483647#32 (fun l : Fin 128 =>
      if best (ix2 r l) = k0_pay4 (F := Ideal) best (ix2 0 r) then k0_pay3 (F := Ideal) blk (ix2 l r) else 38016#32) := by
  pointwise [k0_pay5, k0_pay2]

/-- The margin read out for row `r` is the top less the largest of the rest. -/
theorem pay6_apply (best sec : Vec Ideal S128x128 .f32) (blk : Vec Ideal S128x128 .i32) (r : Fin 128) :
    k0_pay6 (F := Ideal) best blk sec (ix2 0 r) = k0_pay4 (F := Ideal) best (ix2 0 r)
      - Finset.univ.fold max (Ideal.ofBits .f32 0xFF800000#32) (fun l : Fin 128 =>
          Scalar.select (IntOp.cmpi .eq (k0_pay3 (F := Ideal) blk (ix2 l r)) (k0_pay5 (F := Ideal) best blk (ix2 0 r)))
            (sec (ix2 r l)) (best (ix2 r l))) := by
  pointwise [k0_pay6, k0_pay2]

/-- A function of the 128 lanes as a function of numbers. -/
def lane {β : Type} (f : Fin 128 → β) (d : β) (l : ℕ) : β := if hl : l < 128 then f ⟨l, hl⟩ else d

/-- `lane f d` at a lane number is `f` there. -/
theorem lane_eq {β : Type} (f : Fin 128 → β) (d : β) (l : ℕ) (hl : l < 128) : lane f d l = f ⟨l, hl⟩ := dif_pos hl

/-- If every lane's state is right of the 297 entries it has scanned, the three results read out of the states are
    the two largest of all 38016 entries. -/
theorem readout_is (s : St Ideal) (r : Fin 128) (a : ℕ → EReal)
    (h : ∀ l : Fin 128, Top2.Is (fun b => a (128 * b + l.val)) 297 (s.blk (ix2 r l)).toNat (s.best (ix2 r l)) (s.sec (ix2 r l))) :
    ∃ sec, Top2.Is a 38016 (k0_pay5 (F := Ideal) s.best s.blk (ix2 0 r)).toNat (k0_pay4 (F := Ideal) s.best (ix2 0 r)) sec
      ∧ k0_pay6 (F := Ideal) s.best s.blk s.sec (ix2 0 r) = k0_pay4 (F := Ideal) s.best (ix2 0 r) - sec := by
  refine ⟨_, ?_, pay6_apply s.best s.sec s.blk r⟩
  have top_le (z : EReal) : k0_pay4 (F := Ideal) s.best (ix2 0 r) ≤ z ↔ ∀ l : Fin 128, s.best (ix2 r l) ≤ z := by
    rw [pay4_apply]
    exact foldMax_le _ z
  have col (l : Fin 128) : (k0_pay3 (F := Ideal) s.blk (ix2 l r)).toNat = (s.blk (ix2 r l)).toNat * 128 + l.val
      ∧ (k0_pay3 (F := Ideal) s.blk (ix2 l r)).toInt = ((s.blk (ix2 r l)).toNat * 128 + l.val : ℕ) := by
    have hb := (h l).lt
    have e : (k0_pay3 (F := Ideal) s.blk (ix2 l r)).toNat = (s.blk (ix2 r l)).toNat * 128 + l.val := by
      rw [pay3_apply, BitVec.toNat_add, BitVec.toNat_mul, BitVec.toNat_ofNat, BitVec.toNat_ofNat]
      omega
    exact ⟨e, by rw [BitVec.toInt_eq_toNat_of_lt (by omega), e]⟩
  have htok := foldMin_spec 2147483647#32 (fun l : Fin 128 =>
      if s.best (ix2 r l) = k0_pay4 (F := Ideal) s.best (ix2 0 r) then k0_pay3 (F := Ideal) s.blk (ix2 l r) else 38016#32)
  rw [← pay5_apply] at htok
  obtain ⟨hin, hmin⟩ := htok
  generalize k0_pay5 (F := Ideal) s.best s.blk (ix2 0 r) = tok at hin hmin ⊢
  generalize k0_pay4 (F := Ideal) s.best (ix2 0 r) = top at top_le hin hmin ⊢
  have hmin' (l : Fin 128) (e : s.best (ix2 r l) = top) : tok.toInt ≤ ((s.blk (ix2 r l)).toNat * 128 + l.val : ℕ) := by
    have := hmin l
    rw [if_pos e, (col l).2] at this
    exact this
  obtain ⟨l0, -, hl0⟩ := Finset.exists_max_image Finset.univ (fun l : Fin 128 => s.best (ix2 r l)) ⟨0, Finset.mem_univ _⟩
  have e0 : s.best (ix2 r l0) = top :=
    le_antisymm ((top_le top).1 le_rfl l0) ((top_le _).2 fun l => hl0 l (Finset.mem_univ l))
  have small : tok.toInt < 38016 := by
    have h1 := hmin' l0 e0
    have h2 := (h l0).lt
    have h3 := l0.isLt
    push_cast at h1
    omega
  have hex : ∃ l : Fin 128, s.best (ix2 r l) = top ∧ tok = k0_pay3 (F := Ideal) s.blk (ix2 l r) := by
    rcases hin with e | ⟨l, e⟩
    · rw [e] at small
      exact absurd small (by decide)
    · by_cases c : s.best (ix2 r l) = top
      · rw [if_pos c] at e
        exact ⟨l, c, e⟩
      · rw [if_neg c] at e
        rw [e] at small
        exact absurd small (by decide)
  obtain ⟨l1, hl1, rfl⟩ := hex
  simp only [(col l1).2, Nat.cast_le] at hmin'
  refine Top2.Is.lanes (m := 297) (w := 128) (by decide) (blk := lane (fun l => (s.blk (ix2 r l)).toNat) 0)
    (best := lane (fun l => s.best (ix2 r l)) 0) (sec := lane (fun l => s.sec (ix2 r l)) 0) (fun l hl => ?_) (fun z => ?_) ?_
    (fun l hl e => ?_) (fun z => ?_)
  · simp only [lane_eq _ _ l hl]
    exact h ⟨l, hl⟩
  · rw [top_le]
    exact ⟨fun k l hl => (lane_eq _ _ l hl).trans_le (k ⟨l, hl⟩), fun k l => (lane_eq _ _ l.val l.isLt).symm.trans_le (k l.val l.isLt)⟩
  · exact ⟨l1.val, l1.isLt, (lane_eq _ _ l1.val l1.isLt).trans hl1, (col l1).1.trans (congrArg (· * 128 + l1.val) (lane_eq (fun l => (s.blk (ix2 r l)).toNat) 0 l1.val l1.isLt).symm)⟩
  · rw [(col l1).1]
    exact (hmin' ⟨l, hl⟩ ((lane_eq _ _ l hl).symm.trans e)).trans_eq (congrArg (· * 128 + l) (lane_eq (fun l => (s.blk (ix2 r l)).toNat) 0 l hl).symm)
  · rw [foldMax_le]
    have sel (l : Fin 128) : Scalar.select (IntOp.cmpi .eq (k0_pay3 (F := Ideal) s.blk (ix2 l r)) (k0_pay3 (F := Ideal) s.blk (ix2 l1 r)))
        (s.sec (ix2 r l)) (s.best (ix2 r l))
        = if (s.blk (ix2 r l)).toNat * 128 + l.val = (k0_pay3 (F := Ideal) s.blk (ix2 l1 r)).toNat then s.sec (ix2 r l) else s.best (ix2 r l) := by
      rw [← (col l).1]
      by_cases c : k0_pay3 (F := Ideal) s.blk (ix2 l r) = k0_pay3 (F := Ideal) s.blk (ix2 l1 r)
      · rw [c, if_pos rfl]
        simp [IntOp.cmpi, Scalar.select]
      · rw [if_neg (fun e => c (BitVec.eq_of_toNat_eq e))]
        simp only [IntOp.cmpi, beq_eq_false_iff_ne.2 c]
        rfl
    constructor
    · intro k l hl
      have := k ⟨l, hl⟩
      rw [sel] at this
      simpa only [lane_eq _ _ l hl] using this
    · intro k l
      have := k l.val l.isLt
      rw [sel]
      simpa only [lane_eq _ _ l.val l.isLt] using this

/-- One fold at an element: the lane's scan takes one more entry. -/
theorem fold_apply (b : BitVec 32) (v : FVec Ideal S128x128 .f32) (s : St Ideal) (r l : Fin 128) :
    (fold b v s).best (ix2 r l) = max (s.best (ix2 r l)) (v (ix2 r l))
     ∧ (fold b v s).blk (ix2 r l) = (if v (ix2 r l) > s.best (ix2 r l) then b else s.blk (ix2 r l))
     ∧ (fold b v s).sec (ix2 r l) = max (s.sec (ix2 r l)) (min (s.best (ix2 r l)) (v (ix2 r l))) := by
  refine ⟨?_, ?_, ?_⟩
  · unfold fold; pointwise []
  · unfold fold; pointwise []
  · unfold fold; pointwise []

/-- The halves of a tile at an element. -/
theorem half_apply (L : FVec Ideal S128x256 .f32) (r l : Fin 128) :
    half0 L (ix2 r l) = L (ix2 r ⟨l.val, by omega⟩) ∧ half1 L (ix2 r l) = L (ix2 r ⟨128 + l.val, by omega⟩) := by
  refine ⟨?_, ?_⟩
  · pointwise [half0]
  · pointwise [half1]

end Cert.KernelIdeal.Gen

end
-- ==== Proof.PlanK.lean ====
/- The state carried between grid steps: after every step it holds, per row and lane, the two largest of the entries the
   lane has met. -/
module

public import proofs.«01_k».proof.Proof.Blocks
public import proofs.«01_k».proof.Proof.TopK
public import proofs.«01_k».proof.Proof.LogitK

@[expose] public section

set_option maxRecDepth 16384

noncomputable section

namespace Cert.KernelIdeal.Gen

open Idealize.ShloMosaic Idealize.ShloMosaic.TcCoe Idealize.ShloMosaic.Pointwise
open Idealize.SL.Sem
open Cert.Spec

/-- Each lane of the state `s` holds the two largest of the first `n` entries of its column of blocks. -/
def Seen (a : Fin 128 → ℕ → EReal) (n : ℕ) (s : St Ideal) : Prop :=
  ∀ r l : Fin 128, Top2.Scan (fun b => a r (128 * b + l.val)) n (s.blk (ix2 r l)).toNat (s.best (ix2 r l)) (s.sec (ix2 r l))

/-- The first step's state has met nothing. -/
theorem seen_init (a : Fin 128 → ℕ → EReal) : Seen a 0 St.init := by
  intro r l
  refine .inl ⟨rfl, ?_, ?_, ?_⟩
  · show (k0_pay9 (ix2 r l)).toNat = 0
    have : k0_pay9 (ix2 r l) = 0#32 := by pointwise [k0_pay9]
    rw [this]; rfl
  · show k0_pay7 (F := Ideal) (ix2 r l) = ⊥
    have : k0_pay7 (F := Ideal) (ix2 r l) = Ideal.ofBits .f32 0xFF800000#32 := by pointwise [k0_pay7]
    exact this.trans ofBits_bot
  · show k0_pay8 (F := Ideal) (ix2 r l) = ⊥
    have : k0_pay8 (F := Ideal) (ix2 r l) = Ideal.ofBits .f32 0xFF800000#32 := by pointwise [k0_pay8]
    exact this.trans ofBits_bot

/-- A block inside the vocabulary is not masked. -/
theorem masked_in (b : BitVec 32) (v : FVec Ideal S128x128 .f32) (h : b.toNat < 297) : masked b v = v := by
  have e : Scalar.cmpi .slt b 297#32 = 1#1 := by
    have : b.slt 297#32 = true := by
      rw [BitVec.slt, decide_eq_true_eq, BitVec.toInt_eq_toNat_of_lt (by omega)]
      show (b.toNat : ℤ) < 297
      omega
    simp [Scalar.cmpi, IntOp.cmpi, this]
  unfold masked
  rw [e]
  rfl

/-- A block past the vocabulary is minus infinity everywhere. -/
theorem masked_out (b : BitVec 32) (v : FVec Ideal S128x128 .f32) (h : 297 ≤ b.toNat) (hb : b.toNat < 1000) (j : S128x128.Idx) :
    masked b v j = ⊥ := by
  have e : Scalar.cmpi .slt b 297#32 = 0#1 := by
    have : b.slt 297#32 = false := by
      rw [BitVec.slt, decide_eq_false_iff_not, BitVec.toInt_eq_toNat_of_lt (by omega)]
      show ¬ (b.toNat : ℤ) < 297
      omega
    simp [Scalar.cmpi, IntOp.cmpi, this]
  unfold masked
  rw [e]
  exact ofBits_bot

/-- Folding a block in takes every lane one entry further, or leaves it alone past the vocabulary. -/
theorem seen_fold (a : Fin 128 → ℕ → EReal) (n : ℕ) (b : BitVec 32) (v : FVec Ideal S128x128 .f32) (s : St Ideal)
    (hb : b.toNat = n) (hn : n < 1000) (hs : Seen a (min 297 n) s)
    (hv : n < 297 → ∀ r l : Fin 128, v (ix2 r l) = a r (128 * n + l.val)) :
    Seen a (min 297 (n + 1)) (fold b (masked b v) s) := by
  intro r l
  obtain ⟨h1, h2, h3⟩ := fold_apply b (masked b v) s r l
  rw [h1, h2, h3]
  by_cases c : n < 297
  · rw [masked_in b v (by omega), hv c]
    have k := hs r l
    rw [min_eq_right c.le] at k
    rw [min_eq_right c]
    have k' := k.step
    beta_reduce at k'
    refine .inr ?_
    rw [apply_ite BitVec.toNat, hb]
    exact k'
  · rw [masked_out b v (by omega) (by omega)]
    have k := hs r l
    rw [min_eq_left (by omega)] at k
    rw [min_eq_left (by omega), if_neg (by simp), max_eq_left bot_le, min_eq_right bot_le, max_eq_left bot_le]
    exact k

/-- The number of a step's block, as a natural. -/
theorem blockNo_toNat (i : grid0.Coords) (n : ℕ) (hi : (i 0).val = n) (hn : n < 75) :
    (blockNo i 0#32 0#32).toNat = 4 * n ∧ (blockNo i 0#32 1#32).toNat = 4 * n + 1
      ∧ (blockNo i 2#32 0#32).toNat = 4 * n + 2 ∧ (blockNo i 2#32 1#32).toNat = 4 * n + 3 := by
  unfold blockNo
  rw [hi]
  simp only [Scalar.addi, Scalar.muli, IntOp.addi, IntOp.muli, BitVec.toNat_add, BitVec.toNat_mul, BitVec.toNat_ofNat]
  omega

/-- A whole step takes every lane four entries further, as far as the vocabulary goes. -/
theorem seen_step (a : Fin 128 → ℕ → EReal) (i : grid0.Coords) (n : ℕ) (hi : (i 0).val = n) (hn : n < 75)
    (L0 L1 : FVec Ideal S128x256 .f32) (s : St Ideal) (hs : Seen a (min 297 (4 * n)) s)
    (h0 : ∀ (r : Fin 128) (c : Fin 256), 512 * n + c.val < 38016 → L0 (ix2 r c) = a r (512 * n + c.val))
    (h1 : ∀ (r : Fin 128) (c : Fin 256), 512 * n + 256 + c.val < 38016 → L1 (ix2 r c) = a r (512 * n + 256 + c.val)) :
    Seen a (min 297 (4 * (n + 1))) (stepL i L0 L1 s) := by
  obtain ⟨b0, b1, b2, b3⟩ := blockNo_toNat i n hi hn
  have f0 := seen_fold a (4 * n) (blockNo i 0#32 0#32) (half0 L0) s b0 (by omega) hs fun hc r l =>
    ((half_apply L0 r l).1.trans (h0 r _ (by show 512 * n + l.val < _; omega))).trans (congrArg (a r) (by show 512 * n + l.val = _; omega))
  have f1 := seen_fold a (4 * n + 1) (blockNo i 0#32 1#32) (half1 L0) _ b1 (by omega) f0 fun hc r l =>
    ((half_apply L0 r l).2.trans (h0 r _ (by show 512 * n + (128 + l.val) < _; omega))).trans (congrArg (a r) (by show 512 * n + (128 + l.val) = _; omega))
  have f2 := seen_fold a (4 * n + 2) (blockNo i 2#32 0#32) (half0 L1) _ b2 (by omega) f1 fun hc r l =>
    ((half_apply L1 r l).1.trans (h1 r _ (by show 512 * n + 256 + l.val < _; omega))).trans (congrArg (a r) (by show 512 * n + 256 + l.val = _; omega))
  have f3 := seen_fold a (4 * n + 3) (blockNo i 2#32 1#32) (half1 L1) _ b3 (by omega) f2 fun hc r l =>
    ((half_apply L1 r l).2.trans (h1 r _ (by show 512 * n + 256 + (128 + l.val) < _; omega))).trans (congrArg (a r) (by show 512 * n + 256 + (128 + l.val) = _; omega))
  exact f3

variable (m : (ℓ : Loc nD τ sig) → Buf (Elt Ideal) ℓ)

/-- The logit of row `r` against vocabulary row `v`, from the launched arguments (zero past the vocabulary). -/
def entry (c : Dev nD) (r : Fin 128) (v : ℕ) : EReal :=
  if h : v < 38016 then logit (fun k => argX m c (ix3 r 0 k)) (fun d => argP m c (ix2 ⟨v, h⟩ d)) (fun g => argS m c (ix2 ⟨v, h⟩ g)) else 0

/-- A tile's logits at a point are the entries of its vocabulary rows. -/
theorem tile_entry (c : Dev nD) (t : Fin cfg0.N) (d1 : Vec Ideal S512x1792 .i8) (d2 : Vec Ideal S112x512 .bf16) (T : ℕ) (hT : T < 2)
    (r : Fin 128) (q : Fin 256) (h : 512 * t.val + (256 * T + q.val) < 38016) :
    tileLogits (iblk m c 0 t) (codesAt m c t d1) (scalesAt m c t d2) T hT (ix2 r q) = entry m c r (512 * t.val + (256 * T + q.val)) := by
  refine (tileLogits_apply _ _ _ T hT r q).trans ?_
  unfold entry
  rw [dif_pos h]
  congr 1
  · exact funext fun k => x_apply m c t r k
  · exact funext fun k => p_apply m c t d1 _ k h
  · exact funext fun g => s_apply m c t d2 g _ h

/-- One step at a point. -/
theorem seen_at (c : Dev nD) (t : Fin cfg0.N) (d1 : Vec Ideal S512x1792 .i8) (d2 : Vec Ideal S112x512 .bf16) (s : St Ideal)
    (hs : Seen (entry m c) (min 297 (4 * t.val)) s) : Seen (entry m c) (min 297 (4 * (t.val + 1))) (stepAt m c t d1 d2 s) := by
  refine seen_step (entry m c) (grid0.coords t) t.val (coords_val t) (lt_of_lt_of_eq t.isLt N_0) _ _ s hs ?_ ?_
  · intro r q h
    exact (tile_entry m c t d1 d2 0 _ r q (by omega)).trans (congrArg (entry m c r) (by omega))
  · intro r q h
    exact (tile_entry m c t d1 d2 1 _ r q (by omega)).trans (congrArg (entry m c r) (by omega))

/-- The plan: before point `n` every lane has met its first `4 * n` entries, as far as the vocabulary goes. -/
def planK : Plan m where
  Inv c n s := Seen (entry m c) (min 297 (4 * n)) s
  first c t h d1 d2 := by
    have := seen_at m c t d1 d2 St.init (by rw [h]; exact seen_init _)
    rw [h] at this
    exact this
  next c t _ d1 d2 s hs := seen_at m c t d1 d2 s hs

/-- A state after the last point reads out to the two largest of a row's 38016 entries. -/
theorem readout (c : Dev nD) (s : St Ideal) (h : (planK m).Inv c 75 s) (r : Fin 128) :
    ∃ sec, Top2.Is (entry m c r) 38016 (k0_pay5 (F := Ideal) s.best s.blk (ix2 0 r)).toNat (k0_pay4 (F := Ideal) s.best (ix2 0 r)) sec
      ∧ k0_pay6 (F := Ideal) s.best s.blk s.sec (ix2 0 r) = k0_pay4 (F := Ideal) s.best (ix2 0 r) - sec := by
  refine readout_is s r (entry m c r) fun l => ?_
  rcases (show Seen (entry m c) 297 s from h) r l with k | k
  · exact absurd k.1 (by decide)
  · exact k

end Cert.KernelIdeal.Gen
end
-- ==== Proof.RunK.lean ====
/- The kernel's run with its results named: what the last point writes back, reshaped to columns. -/
module

public import proofs.«01_k».proof.Proof.PlanK

@[expose] public section

set_option maxRecDepth 16384

noncomputable section

namespace Cert.KernelIdeal.Gen

open Idealize.ShloMosaic Idealize.ShloMosaic.TcCoe Idealize.ShloMosaic.Tactic Idealize.ShloMosaic.Pointwise
open Idealize.SL.Sem

variable {F : FTy → Type} [FloatOps F]
variable {m : (ℓ : Loc nD τ sig) → Buf (Elt F) ℓ} (ρ : Dev nD → PrngReg)
variable (P : Plan m) (O3 : Dev nD → Vec F S1x128 .i32) (O4 O5 : Dev nD → Vec F S1x128 .f32)

/-- The last point. -/
abbrev lastPoint : Fin cfg0.N := ⟨74, by decide⟩

/-- The first output array ends at what the last point writes back. -/
theorem arr_3 (c : Dev nD) : (dats P O3 O4 O5 0 c).arrAt 3 cfg0.N = O3 c :=
  (dats P O3 O4 O5 0 c).arrAt_eq_of_after_last 3 lastPoint (by decide +kernel) _ fun _ => rfl
/-- The second output array ends at what the last point writes back. -/
theorem arr_4 (c : Dev nD) : (dats P O3 O4 O5 0 c).arrAt 4 cfg0.N = O4 c :=
  (dats P O3 O4 O5 0 c).arrAt_eq_of_after_last 4 lastPoint (by decide +kernel) _ fun _ => rfl
/-- The third output array ends at what the last point writes back. -/
theorem arr_5 (c : Dev nD) : (dats P O3 O4 O5 0 c).arrAt 5 cfg0.N = O5 c :=
  (dats P O3 O4 O5 0 c).arrAt_eq_of_after_last 5 lastPoint (by decide +kernel) _ fun _ => rfl

/-- An index of a column is its row number. -/
theorem column_idx (i : S128x1.Idx) : i = ix2 (i 0) 0 := Shape.idx_ext₂ rfl (by have := (i 1).isLt; show (i 1).val = 0; exact Nat.lt_one_iff.1 this)

/-- An index of a row is its column number. -/
theorem row_idx (i : S1x128.Idx) : i = ix2 0 (i 1) := Shape.idx_ext₂ (by have := (i 0).isLt; show (i 0).val = 0; exact Nat.lt_one_iff.1 this) rfl

/-- Reshaping a row of 128 to a column, entry by entry. -/
theorem column_apply {α : Type} (v : S1x128.Idx → α) (r : Fin 128) :
    shapeCast S128x1 v shapeCasts_S1x128_S128x1 (ix2 r 0) = v (ix2 0 r) := by
  pointwise

/-- A column is the reshape of the row holding its entries. -/
theorem column_eq {α : Type} (R : S128x1.Idx → α) :
    shapeCast S128x1 (fun y : S1x128.Idx => R (ix2 (y 1) 0)) shapeCasts_S1x128_S128x1 = R := by
  funext i
  rw [column_idx i]
  exact column_apply _ (i 0)

/-- What the lines after the region leave in the first result. -/
theorem tail_3 (X : Valuation τ sig (Elt F)) :
    StableHlo.after hostOps1 X (Proc.devRef .tc main_v3) = shapeCast S128x1 (X (Proc.devRef .tc main_v2_0) : Vec F S1x128 .i32) shapeCasts_S1x128_S128x1 := by
  simp only [StableHlo.after_cons, StableHlo.after_nil]
  refine (StableHlo.reshape_result_ne (x := main_v2_2) (y := main_v5) (r := main_v3) _ _ _ _ _ (by decide)).trans ?_
  refine (StableHlo.reshape_result_ne (x := main_v2_1) (y := main_v4) (r := main_v3) _ _ _ _ _ (by decide)).trans ?_
  exact (StableHlo.reshape_result main_v2_0 main_v3 _ _ _ _ _).trans rfl
/-- What the lines after the region leave in the second result. -/
theorem tail_4 (X : Valuation τ sig (Elt F)) :
    StableHlo.after hostOps1 X (Proc.devRef .tc main_v4) = shapeCast S128x1 (X (Proc.devRef .tc main_v2_1) : Vec F S1x128 .f32) shapeCasts_S1x128_S128x1 := by
  simp only [StableHlo.after_cons, StableHlo.after_nil]
  refine (StableHlo.reshape_result_ne (x := main_v2_2) (y := main_v5) (r := main_v4) _ _ _ _ _ (by decide)).trans ?_
  refine (StableHlo.reshape_result main_v2_1 main_v4 _ _ _ _ _).trans ?_
  exact congrArg (fun v : Vec F S1x128 .f32 => shapeCast S128x1 v shapeCasts_S1x128_S128x1)
    (StableHlo.reshape_result_ne (x := main_v2_0) (y := main_v3) (r := main_v2_1) _ _ _ _ _ (by decide))
/-- What the lines after the region leave in the third result. -/
theorem tail_5 (X : Valuation τ sig (Elt F)) :
    StableHlo.after hostOps1 X (Proc.devRef .tc main_v5) = shapeCast S128x1 (X (Proc.devRef .tc main_v2_2) : Vec F S1x128 .f32) shapeCasts_S1x128_S128x1 := by
  simp only [StableHlo.after_cons, StableHlo.after_nil]
  refine (StableHlo.reshape_result main_v2_2 main_v5 _ _ _ _ _).trans ?_
  exact congrArg (fun v : Vec F S1x128 .f32 => shapeCast S128x1 v shapeCasts_S1x128_S128x1)
    ((StableHlo.reshape_result_ne (x := main_v2_1) (y := main_v4) (r := main_v2_2) _ _ _ _ _ (by decide)).trans
      (StableHlo.reshape_result_ne (x := main_v2_0) (y := main_v3) (r := main_v2_2) _ _ _ _ _ (by decide)))

/-- The run with the results named, entry by entry: if every state the plan allows after the last point reads out to the
    columns `R3`, `R4`, `R5`, the kernel ends with them, its arguments unchanged. -/
theorem run_columns (R3 : Dev nD → Vec F S128x1 .i32) (R4 R5 : Dev nD → Vec F S128x1 .f32)
    (h : ∀ c s, P.Inv c 75 s → ∀ r : Fin 128, k0_pay5 s.best s.blk (ix2 0 r) = R3 c (ix2 r 0)
      ∧ k0_pay6 s.best s.blk s.sec (ix2 0 r) = R4 c (ix2 r 0) ∧ k0_pay4 s.best (ix2 0 r) = R5 c (ix2 r 0)) :
    θ_run defs (onTc (τ := τ) (main (F := F))) ⟨m, fun _ => 0, ρ⟩ (fun r => ∀ c : Dev nD,
      r.2.mem ((c.tc : Thread nD τ).loc main_v3) = R3 c
      ∧ r.2.mem ((c.tc : Thread nD τ).loc main_v4) = R4 c
      ∧ r.2.mem ((c.tc : Thread nD τ).loc main_v5) = R5 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  have hr := run_exact ρ P (fun c y => R3 c (ix2 (y 1) 0)) (fun c y => R4 c (ix2 (y 1) 0)) (fun c y => R5 c (ix2 (y 1) 0))
    fun c s hs => ⟨?_, ?_, ?_⟩
  rotate_left
  · funext y
    rw [row_idx y]
    exact (h c s hs (y 1)).1
  · funext y
    rw [row_idx y]
    exact (h c s hs (y 1)).2.1
  · funext y
    rw [row_idx y]
    exact (h c s hs (y 1)).2.2
  refine (θ_run defs _ _).mono (fun _ k c => ⟨?_, ?_, ?_,
    ((k c).2 main_arg0 (Pipeline.mem_restRefs_of main_arg0 (by decide) (by decide))).trans (W_main_arg0 m _ c),
    ((k c).1 1).trans ((Pipeline.Dat.arrAt_in _ 1 rfl _).trans ((A_eq P _ _ _ c 1).trans (V_main_arg1 m c))),
    ((k c).2 main_arg2 (Pipeline.mem_restRefs_of main_arg2 (by decide) (by decide))).trans (W_main_arg2 m _ c)⟩) hr
  · refine ((k c).2 main_v3 (Pipeline.mem_restRefs_of main_v3 (by decide) (by decide))).trans ((tail_3 _).trans ?_)
    refine Eq.trans ?_ (column_eq (R3 c))
    exact congrArg (fun v : Vec F S1x128 .i32 => shapeCast S128x1 v shapeCasts_S1x128_S128x1)
      ((Pipeline.withArrays_arr spec0 launch0.win.arr_inj c (V0 m c) _ 3).trans (arr_3 P _ _ _ c))
  · refine ((k c).2 main_v4 (Pipeline.mem_restRefs_of main_v4 (by decide) (by decide))).trans ((tail_4 _).trans ?_)
    refine Eq.trans ?_ (column_eq (R4 c))
    exact congrArg (fun v : Vec F S1x128 .f32 => shapeCast S128x1 v shapeCasts_S1x128_S128x1)
      ((Pipeline.withArrays_arr spec0 launch0.win.arr_inj c (V0 m c) _ 4).trans (arr_4 P _ _ _ c))
  · refine ((k c).2 main_v5 (Pipeline.mem_restRefs_of main_v5 (by decide) (by decide))).trans ((tail_5 _).trans ?_)
    refine Eq.trans ?_ (column_eq (R5 c))
    exact congrArg (fun v : Vec F S1x128 .f32 => shapeCast S128x1 v shapeCasts_S1x128_S128x1)
      ((Pipeline.withArrays_arr spec0 launch0.win.arr_inj c (V0 m c) _ 5).trans (arr_5 P _ _ _ c))

end Cert.KernelIdeal.Gen
end
-- ==== Proof.LogitR.lean ====
/- The reference's logits over the extended reals: each is one sum over the 3584 contracted elements. -/
module

public import proofs.«01_k».proof.Proof.RefRun
public import proofs.«01_k».proof.Proof.Spec

@[expose] public section

set_option maxRecDepth 16384

noncomputable section

namespace Cert.ReferenceIdeal.Value

open Cert.ReferenceIdeal Cert.ReferenceIdeal.Gen Idealize.ShloMosaic Idealize.ShloMosaic.TcCoe Idealize.ShloMosaic.Pointwise Cert.Spec

/-- The activations are contracted even columns first, then odd. -/
theorem acts_apply (x : Vec Ideal S128x1x3584 .bf16) (r : Fin 128) (h : Fin 2) (d : Fin 1792) :
    acts x (ix4 r 0 h d) = x (ix3 r 0 ⟨2 * d.val + h.val, by omega⟩) := by
  pointwise [acts, joinActs]
  split
  case isTrue c => exact congrArg (fun k => x (ix3 r 0 k)) (Fin.ext (by show 2 * d.val = 2 * d.val + h.val; omega))
  case isFalse c => exact congrArg (fun k => x (ix3 r 0 k)) (Fin.ext (by show 1 + 2 * d.val = 2 * d.val + h.val; omega))

/-- A dequantized weight is its code times its group's scale. -/
theorem weights_apply (p : Vec Ideal S19008x1792 .i8) (s : Vec Ideal S19008x112 .bf16) (v : Fin 19008) (h : Fin 2) (d : Fin 1792) :
    weights p s (ix3 v h d) = code (p (ix2 v d)) h.val * s (ix2 v ⟨d.val / 16, by omega⟩) := by
  pointwise [weights, codes, joinCodes]
  congr 1
  split
  case isTrue c => exact (masked_lo _).trans (congrArg (code _) (by omega))
  case isFalse c => exact (masked_hi _).trans (congrArg (code _) (by omega))

/-- A half's logit is the logit of its row of activations and its vocabulary row's words and scales. -/
theorem logits_apply (x : Vec Ideal S128x1x3584 .bf16) (p : Vec Ideal S19008x1792 .i8) (s : Vec Ideal S19008x112 .bf16)
    (r : Fin 128) (v : Fin 19008) :
    logits x p s (ix3 r 0 v) = logit (fun k => x (ix3 r 0 k)) (fun d => p (ix2 v d)) (fun g => s (ix2 v g)) := by
  pointwise [logits]
  rw [logit, Fin.sum_univ_tiles 1792 2 rfl]
  refine Finset.sum_congr rfl fun d _ => Finset.sum_congr rfl fun h _ => ?_
  rw [acts_apply, weights_apply]
  have e1 : (d.val * 2 + h.val) % 2 = h.val := by omega
  have e2 : (⟨(d.val * 2 + h.val) / 2, by omega⟩ : Fin 1792) = d :=
    Fin.ext (by show (d.val * 2 + h.val) / 2 = d.val; omega)
  have e3 : (⟨(d.val * 2 + h.val) / 32, by omega⟩ : Fin 112) = ⟨d.val / 16, by omega⟩ :=
    Fin.ext (by show (d.val * 2 + h.val) / 32 = d.val / 16; omega)
  have e4 : (⟨d.val * 2 + h.val, by omega⟩ : Fin 3584) = ⟨2 * d.val + h.val, by omega⟩ :=
    Fin.ext (by show d.val * 2 + h.val = 2 * d.val + h.val; omega)
  simp only [e1, e2, e3, e4]

/-- The logits of the first half are those of the first 19008 vocabulary rows … -/
theorem logitsLo_apply (x : Vec Ideal S128x1x3584 .bf16) (p : Vec Ideal S38016x1792 .i8) (s : Vec Ideal S38016x112 .bf16)
    (r : Fin 128) (v : Fin 19008) :
    logitsLo x p s (ix3 r 0 v) = logit (fun k => x (ix3 r 0 k)) (fun d => p (ix2 ⟨v.val, by omega⟩ d))
      (fun g => s (ix2 ⟨v.val, by omega⟩ g)) := by
  rw [logitsLo, logits_apply]
  pointwise []

/-- … and those of the second half, of the rest. -/
theorem logitsHi_apply (x : Vec Ideal S128x1x3584 .bf16) (p : Vec Ideal S38016x1792 .i8) (s : Vec Ideal S38016x112 .bf16)
    (r : Fin 128) (v : Fin 19008) :
    logitsHi x p s (ix3 r 0 v) = logit (fun k => x (ix3 r 0 k)) (fun d => p (ix2 ⟨19008 + v.val, by omega⟩ d))
      (fun g => s (ix2 ⟨19008 + v.val, by omega⟩ g)) := by
  rw [logitsHi, logits_apply]
  pointwise []

end Cert.ReferenceIdeal.Value

end
-- ==== Proof.TopR.lean ====
/- The reference's three results over the extended reals are the two largest logits of each row. -/
module

public import proofs.«01_k».proof.Proof.LogitR
public import proofs.«01_k».proof.Proof.Top2

@[expose] public section

set_option maxRecDepth 16384

noncomputable section

namespace Cert.ReferenceIdeal.Value

open Cert.ReferenceIdeal Cert.ReferenceIdeal.Gen Idealize.ShloMosaic Idealize.ShloMosaic.TcCoe Idealize.ShloMosaic.Pointwise Cert.Spec

/-- A row's largest logit is below `z` exactly when all its logits are. -/
theorem best_le (L : Vec Ideal S128x1x19008 .f32) (r : Fin 128) (z : EReal) :
    best L (ix2 r 0) ≤ z ↔ ∀ v : Fin 19008, L (ix3 r 0 v) ≤ z := by
  have : best L (ix2 r 0) = Finset.univ.fold max (Ideal.ofBits .f32 0xFF800000#32) (fun v : Fin 19008 => L (ix3 r 0 v)) := by
    pointwise [best]
  rw [this]
  exact foldMax_le _ z

/-- A row's second place is below `z` exactly when all its logits but the token's are. -/
theorem second_le (L : Vec Ideal S128x1x19008 .f32) (t : Vec Ideal S128x1 .i32) (r : Fin 128) (z : EReal) :
    second L t (ix2 r 0) ≤ z ↔ ∀ v : Fin 19008, v.val ≠ (t (ix2 r 0)).toNat → L (ix3 r 0 v) ≤ z := by
  have : second L t (ix2 r 0) = Finset.univ.fold max (Ideal.ofBits .f32 0xFF800000#32) (fun v : Fin 19008 =>
      Scalar.select (IntOp.cmpi .eq (BitVec.ofNat 32 v.val) (t (ix2 r 0))) (Ideal.ofBits .f32 0xFF800000#32) (L (ix3 r 0 v))) := by
    pointwise [second, best]
    rfl
  rw [this, foldMax_le]
  refine forall_congr' fun v => ?_
  have e : IntOp.cmpi .eq (BitVec.ofNat 32 v.val) (t (ix2 r 0)) = if v.val = (t (ix2 r 0)).toNat then 1#1 else 0#1 := by
    have : (BitVec.ofNat 32 v.val = t (ix2 r 0)) ↔ v.val = (t (ix2 r 0)).toNat := by
      rw [← BitVec.toNat_inj, BitVec.toNat_ofNat, Nat.mod_eq_of_lt (by omega)]
    simp only [IntOp.cmpi, ← this]
    by_cases c : BitVec.ofNat 32 v.val = t (ix2 r 0)
    · simp [c]
    · rw [if_neg c, beq_eq_false_iff_ne.2 c]
      rfl
  rw [e]
  by_cases c : v.val = (t (ix2 r 0)).toNat
  · simp [c, Scalar.select, ofBits_bot]
  · simp [c, Scalar.select]

/-- A pair of a value and a position beats another when its value is larger, or equal at no later a position. -/
def Beats (q p : EReal × BitVec 32) : Prop := p.1 < q.1 ∨ (p.1 = q.1 ∧ q.2.toInt ≤ p.2.toInt)

/-- Beating is transitive. -/
theorem Beats.trans {a b c : EReal × BitVec 32} (h : Beats a b) (k : Beats b c) : Beats a c := by
  rcases h with h | ⟨h, h'⟩ <;> rcases k with k | ⟨k, k'⟩
  · exact .inl (k.trans h)
  · exact .inl (k ▸ h)
  · exact .inl (h ▸ k)
  · exact .inr ⟨k.trans h, h'.trans k'⟩

/-- The reducer returns one of its two pairs, and one that beats both. -/
theorem reducer_spec (a b : EReal × BitVec 32) :
    (reducer_argmax_f32_i32 (F := Ideal) a b = a ∨ reducer_argmax_f32_i32 (F := Ideal) a b = b)
      ∧ Beats (reducer_argmax_f32_i32 (F := Ideal) a b) a ∧ Beats (reducer_argmax_f32_i32 (F := Ideal) a b) b := by
  obtain ⟨x, i⟩ := a
  obtain ⟨y, j⟩ := b
  have e : reducer_argmax_f32_i32 (F := Ideal) (x, i) (y, j)
      = (if y < x then (x, i) else if x = y ∧ i.toInt < j.toInt then (y, i) else (y, j)) := by
    simp only [reducer_argmax_f32_i32, Ideal.cmpf_def, Ideal.cmp, IntOp.ori, IntOp.andi, IntOp.cmpi, Scalar.select, BitVec.slt]
    by_cases c : y < x
    · rcases (BitVec.eq_zero_or_eq_one (BitVec.ofBool (decide (x = y) && decide (i.toInt < j.toInt)))) with h | h <;> simp [c, h]
    · by_cases c1 : x = y <;> by_cases c2 : i.toInt < j.toInt <;> simp [c, c1, c2]
  rw [e]
  split_ifs with c1 c2
  · exact ⟨.inl rfl, .inr ⟨rfl, le_rfl⟩, .inl c1⟩
  · obtain ⟨rfl, c2⟩ := c2
    exact ⟨.inl rfl, .inr ⟨rfl, le_rfl⟩, .inr ⟨rfl, c2.le⟩⟩
  · refine ⟨.inr rfl, ?_, .inr ⟨rfl, le_rfl⟩⟩
    rcases lt_or_eq_of_le (not_lt.1 c1) with h | h
    · exact .inl h
    · exact .inr ⟨h, not_lt.1 fun k => c2 ⟨h, k⟩⟩

/-- So a fold of it returns the start or an entry of the list, and one that beats them all. -/
theorem foldl_spec (l : List (EReal × BitVec 32)) (q : EReal × BitVec 32) :
    (l.foldl (reducer_argmax_f32_i32 (F := Ideal)) q = q ∨ l.foldl (reducer_argmax_f32_i32 (F := Ideal)) q ∈ l)
      ∧ Beats (l.foldl (reducer_argmax_f32_i32 (F := Ideal)) q) q
      ∧ ∀ p ∈ l, Beats (l.foldl (reducer_argmax_f32_i32 (F := Ideal)) q) p := by
  induction l generalizing q with
  | nil => exact ⟨.inl rfl, .inr ⟨rfl, le_rfl⟩, by simp⟩
  | cons a l ih =>
    obtain ⟨i1, i2, i3⟩ := ih (reducer_argmax_f32_i32 (F := Ideal) q a)
    obtain ⟨r1, r2, r3⟩ := reducer_spec q a
    simp only [List.foldl_cons]
    refine ⟨?_, i2.trans r2, ?_⟩
    · rcases i1 with h | h
      · rcases r1 with k | k
        · exact .inl (h.trans k)
        · exact .inr (by rw [h, k]; exact List.mem_cons_self ..)
      · exact .inr (List.mem_cons_of_mem _ h)
    · intro p hp
      rcases List.mem_cons.1 hp with rfl | hp
      · exact i2.trans r3
      · exact i3 p hp

/-- The reduced axis dropped from an index. -/
theorem drop_apply (a : Fin 128) (b : Fin 1) (c : Fin 19008) :
    reducesTo_S128x1x19008_S128x1_d2.drop (ix3 a b c) = ix2 a b := by
  have key : ∀ d : Fin 2, reducesTo_S128x1x19008_S128x1_d2.drop (ix3 a b c) d = ix2 a b d :=
    Fin.forall_fin_two.2 ⟨Fin.ext rfl, Fin.ext rfl⟩
  exact funext key

/-- An arg-max over any axes, whose fiber at `j` holds the position zero: the position it returns is that of an entry
    which beats every other entry of the fiber. -/
theorem argmax_spec {s t u : Shape} {axes : List (Fin s.rank)} (x : s.Idx → EReal) (y : s.Idx → BitVec 32)
    (ix : u.Idx → EReal) (iy : u.Idx → BitVec 32) (h : s.ReducesTo axes t) (hu : 0 < u.numel) (j : t.Idx)
    (hx : ix (Shape.Idx.first hu) = ⊥) (hy : iy (Shape.Idx.first hu) = 0#32) (i0 : s.Idx) (hi0 : h.drop i0 = j)
    (hy0 : y i0 = 0#32) :
    ∃ i, h.drop i = j ∧ (Host.argReduce (F := Ideal) (φ := .f32) (reducer_argmax_f32_i32 (F := Ideal)) x y ix iy h hu j).2 = y i
      ∧ ∀ w, h.drop w = j → x w < x i ∨ (x w = x i ∧ (y i).toInt ≤ (y w).toInt) := by
  have mem (p : EReal × BitVec 32) : p ∈ Host.argReduceFiber (α := EReal) x y h j ↔ ∃ i, h.drop i = j ∧ p = (x i, y i) := by
    unfold Host.argReduceFiber
    rw [List.mem_map]
    constructor
    · rintro ⟨n, hn, rfl⟩
      have hd := (List.mem_filter.1 hn).2
      rw [decide_eq_true_eq] at hd
      exact ⟨_, hd, rfl⟩
    · rintro ⟨v, hv, rfl⟩
      refine ⟨s.rowMajor v, List.mem_filter.2 ⟨List.mem_finRange _, ?_⟩, ?_⟩
      · rw [decide_eq_true_eq, Equiv.symm_apply_apply]
        exact hv
      · rw [Equiv.symm_apply_apply]
  rw [Ideal.argReduce_eq_reduce2, Host.reduce2_eq_foldl_fiber, hx, hy]
  obtain ⟨h1, h2, h3⟩ := foldl_spec (Host.argReduceFiber (α := EReal) x y h j) (⊥, 0#32)
  have key : ∃ i, h.drop i = j ∧ (Host.argReduceFiber (α := EReal) x y h j).foldl (reducer_argmax_f32_i32 (F := Ideal)) (⊥, 0#32)
      = (x i, y i) := by
    rcases h1 with e | e
    · refine ⟨i0, hi0, ?_⟩
      rcases h3 _ ((mem _).2 ⟨i0, hi0, rfl⟩) with k | k
      · rw [e] at k
        exact absurd k not_lt_bot
      · rw [e] at k ⊢
        exact Prod.ext k.1.symm hy0.symm
    · exact (mem _).1 e
  obtain ⟨i, hi, e⟩ := key
  rw [e] at h3
  exact ⟨i, hi, congrArg Prod.snd e, fun w hw => h3 _ ((mem _).2 ⟨w, hw, rfl⟩)⟩

/-- A vocabulary index read as a signed word is itself. -/
theorem toInt_small (v : Fin 19008) : (BitVec.ofNat 32 v.val).toInt = v.val := by
  rw [BitVec.toInt_eq_toNat_of_lt, BitVec.toNat_ofNat, Nat.mod_eq_of_lt (by omega)]
  rw [BitVec.toNat_ofNat, Nat.mod_eq_of_lt (by omega)]
  omega

/-- `token` is the position part of each row's arg-max. -/
theorem token_fn : (token : Vec Ideal S128x1x19008 .f32 → Vec Ideal S128x1 .i32) = fun L j =>
    (Host.argReduce (F := Ideal) (φ := .f32) (reducer_argmax_f32_i32 (F := Ideal)) L (iotaInDim S128x1x19008 32 2)
      (constant (F := Ideal) S_ .f32 0xFF800000#32) (constantI S_ 32 0#32) reducesTo_S128x1x19008_S128x1_d2 h_S_ j).2 := by
  delta token
  with_reducible rfl

/-- `token` at an element is the position part of that row's arg-max. -/
theorem token_def (L : Vec Ideal S128x1x19008 .f32) (j : S128x1.Idx) :
    token L j = (Host.argReduce (F := Ideal) (φ := .f32) (reducer_argmax_f32_i32 (F := Ideal)) L (iotaInDim S128x1x19008 32 2)
      (constant (F := Ideal) S_ .f32 0xFF800000#32) (constantI S_ 32 0#32) reducesTo_S128x1x19008_S128x1_d2 h_S_ j).2 :=
  congrFun (congrFun token_fn L) j

/-- The column `token` returns is the first that holds the row's largest logit. -/
theorem token_spec (L : Vec Ideal S128x1x19008 .f32) (r : Fin 128) :
    ∃ v : Fin 19008, token L (ix2 r 0) = BitVec.ofNat 32 v.val
      ∧ ∀ w : Fin 19008, L (ix3 r 0 w) < L (ix3 r 0 v) ∨ (L (ix3 r 0 w) = L (ix3 r 0 v) ∧ v.val ≤ w.val) := by
  obtain ⟨i, hi, e, hw⟩ := argmax_spec L (iotaInDim S128x1x19008 32 2) (constant (F := Ideal) S_ .f32 0xFF800000#32)
    (constantI S_ 32 0#32) reducesTo_S128x1x19008_S128x1_d2 h_S_ (ix2 r 0) ofBits_bot rfl (ix3 r 0 0) (drop_apply r 0 0) rfl
  rw [token_def, e]
  clear e
  idx_vars i
  rw [drop_apply, ix2_inj] at hi
  obtain ⟨rfl, rfl⟩ := hi
  refine ⟨_, rfl, fun w => ?_⟩
  have := hw (ix3 _ _ w) (drop_apply _ _ w)
  simp only [iotaInDim, ix3_2, toInt_small, Nat.cast_le] at this
  exact this

/-- A half's results are the two largest of the row's logits, the column counted from the half's first. -/
theorem half_is (L : Vec Ideal S128x1x19008 .f32) (r : Fin 128) (a : ℕ → EReal) (ha : ∀ v : Fin 19008, L (ix3 r 0 v) = a v.val) :
    Top2.Is a 19008 (token L (ix2 r 0)).toNat (best L (ix2 r 0)) (second L (token L) (ix2 r 0)) := by
  obtain ⟨v, hv, hw⟩ := token_spec L r
  have hs := second_le L (token L) r
  generalize token L = T at hv hs ⊢
  have e : (T (ix2 r 0)).toNat = v.val := by
    rw [hv, BitVec.toNat_ofNat, Nat.mod_eq_of_lt (by omega)]
  simp only [e] at hs
  rw [e]
  have hb : best L (ix2 r 0) = a v.val := by
    rw [← ha]
    refine le_antisymm ((best_le L r _).2 fun w => ?_) ((best_le L r _).1 le_rfl v)
    rcases hw w with h | h
    · exact h.le
    · exact h.1.le
  rw [hb]
  refine ⟨v.isLt, rfl, fun w h => ?_, fun w h k => ?_, fun z => ?_⟩
  · have := hw ⟨w, h⟩
    rw [ha, ha] at this
    rcases this with h | h
    · exact h.le
    · exact h.1.le
  · have := hw ⟨w, h.trans v.isLt⟩
    rw [ha, ha] at this
    rcases this with h' | h'
    · exact h'.ne k
    · exact absurd h (not_lt.2 h'.2)
  · rw [hs]
    refine ⟨fun k w h ne => ?_, fun k w ne => ?_⟩
    · rw [← ha ⟨w, h⟩]
      exact k ⟨w, h⟩ ne
    · rw [ha]
      exact k w.val w.isLt ne

/-- Two halves' results merged, for any columns and second places that are right of each half. -/
theorem merged_is (A B : FVec Ideal S128x1 .f32) (T U : Vec Ideal S128x1 .i32) (r : Fin 128) (a : ℕ → EReal)
    (sa sb : EReal) (hA : Top2.Is a 19008 (T (ix2 r 0)).toNat (A (ix2 r 0)) sa)
    (hB : Top2.Is (fun v => a (19008 + v)) 19008 (U (ix2 r 0)).toNat (B (ix2 r 0)) sb) :
    Top2.Is a 38016 (select (cmpf .oge A B) T
        (addi U (broadcastInDim S128x1 ![] bcast_S_S128x1 (constantI S_ 32 19008#32))) (ix2 r 0)).toNat
      (max (A (ix2 r 0)) (B (ix2 r 0))) (max (min (A (ix2 r 0)) (B (ix2 r 0))) (max sa sb)) := by
  have h := hA.merge hB
  have hb := hB.lt
  have : select (cmpf .oge A B) T (addi U (broadcastInDim S128x1 ![] bcast_S_S128x1 (constantI S_ 32 19008#32))) (ix2 r 0)
      = if B (ix2 r 0) ≤ A (ix2 r 0) then T (ix2 r 0) else IntOp.addi (U (ix2 r 0)) 19008#32 := by
    pointwise []
  rw [this]
  have e : (if B (ix2 r 0) ≤ A (ix2 r 0) then T (ix2 r 0) else IntOp.addi (U (ix2 r 0)) 19008#32).toNat
      = if A (ix2 r 0) ≥ B (ix2 r 0) then (T (ix2 r 0)).toNat else (U (ix2 r 0)).toNat + 19008 := by
    by_cases c : B (ix2 r 0) ≤ A (ix2 r 0)
    · rw [if_pos c, if_pos c]
    · rw [if_neg c, if_neg c]
      show (U (ix2 r 0) + 19008#32).toNat = _
      rw [BitVec.toNat_add]
      show ((U (ix2 r 0)).toNat + 19008) % 2 ^ 32 = _
      rw [Nat.mod_eq_of_lt (by omega)]
  rw [e]
  exact h

/-- The whole vocabulary's results are the two largest of the row's logits. -/
theorem out_is (A B : Vec Ideal S128x1x19008 .f32) (r : Fin 128) (a : ℕ → EReal)
    (hA : ∀ v : Fin 19008, A (ix3 r 0 v) = a v.val) (hB : ∀ v : Fin 19008, B (ix3 r 0 v) = a (19008 + v.val)) :
    ∃ sec, Top2.Is a 38016 (outToken A B (ix2 r 0)).toNat (outTop A B (ix2 r 0)) sec
      ∧ outMargin A B (ix2 r 0) = outTop A B (ix2 r 0) - sec := by
  have h := merged_is (best A) (best B) (token A) (token B) r a _ _ (half_is A r a hA) (half_is B r (fun v => a (19008 + v)) hB)
  refine ⟨max (min (best A (ix2 r 0)) (best B (ix2 r 0))) (max (second A (token A) (ix2 r 0)) (second B (token B) (ix2 r 0))), ?_, ?_⟩
  · delta outToken outTop
    rw [ValueIdx.maximumf_apply]
    with_reducible exact h
  · delta outMargin
    rw [ValueIdx.subf_apply, ValueIdx.maximumf_apply, ValueIdx.minimumf_apply, ValueIdx.maximumf_apply]

end Cert.ReferenceIdeal.Value

end
-- ==== Proof.Alg.lean ====
/- The kernel and the reference end with the same results: both hold the two largest of each row's logits. -/
module

public import proofs.«01_k».proof.Defs
public import proofs.«01_k».proof.Proof.Gen.ReferenceIdeal
public import proofs.«01_k».proof.Proof.RunK
public import proofs.«01_k».proof.Proof.RefRun
public import proofs.«01_k».proof.Proof.LogitR
public import proofs.«01_k».proof.Proof.TopR

@[expose] public section

set_option maxRecDepth 16384

noncomputable section

namespace Cert.Proof

open Idealize.ShloMosaic Idealize.ShloMosaic.TcCoe Idealize.ShloMosaic.Pointwise
open Idealize.SL.Sem
open Cert.KernelIdeal.Gen (entry planK argX argP argS readout run_columns)

/-- The two programs' results agree, row by row: whatever columns `tok`, `mar`, `top` hold the two largest of the rows'
    entries are what a state after the last point reads out to. -/
theorem results_agree (m : (ℓ : Loc Cert.KernelIdeal.nD Cert.KernelIdeal.τ Cert.KernelIdeal.sig) → Buf (Elt Ideal) ℓ)
    (c : Dev Cert.KernelIdeal.nD) (s : Cert.KernelIdeal.Gen.St Ideal) (h : (planK m).Inv c 75 s) (r : Fin 128)
    (tok : BitVec 32) (mar top : EReal)
    (hR : ∃ sec, Top2.Is (entry m c r) 38016 tok.toNat top sec ∧ mar = top - sec) :
    Cert.KernelIdeal.Gen.k0_pay5 (F := Ideal) s.best s.blk (ix2 0 r) = tok
      ∧ Cert.KernelIdeal.Gen.k0_pay6 (F := Ideal) s.best s.blk s.sec (ix2 0 r) = mar
      ∧ Cert.KernelIdeal.Gen.k0_pay4 (F := Ideal) s.best (ix2 0 r) = top := by
  obtain ⟨sec, k, e⟩ := hR
  obtain ⟨sec', k', e'⟩ := readout m c s h r
  obtain ⟨u1, u2, u3⟩ := k'.unique k
  exact ⟨BitVec.eq_of_toNat_eq u1, by rw [e', e, u2, u3], u2⟩

/-- A row's reference results are the two largest of the row's entries. -/
theorem reference_is (m : (ℓ : Loc Cert.KernelIdeal.nD Cert.KernelIdeal.τ Cert.KernelIdeal.sig) → Buf (Elt Ideal) ℓ)
    (c : Dev Cert.KernelIdeal.nD) (A B : Vec Ideal Cert.ReferenceIdeal.S128x1x19008 .f32)
    (hA : A = Cert.ReferenceIdeal.Value.logitsLo (argX m c) (argP m c) (argS m c))
    (hB : B = Cert.ReferenceIdeal.Value.logitsHi (argX m c) (argP m c) (argS m c)) (r : Fin 128) :
    ∃ sec, Top2.Is (entry m c r) 38016 (Cert.ReferenceIdeal.Value.outToken A B (ix2 r 0)).toNat
        (Cert.ReferenceIdeal.Value.outTop A B (ix2 r 0)) sec
      ∧ Cert.ReferenceIdeal.Value.outMargin A B (ix2 r 0) = Cert.ReferenceIdeal.Value.outTop A B (ix2 r 0) - sec := by
  refine Cert.ReferenceIdeal.Value.out_is A B r (entry m c r) (fun v => ?_) (fun v => ?_)
  · rw [hA]
    refine (Cert.ReferenceIdeal.Value.logitsLo_apply _ _ _ r v).trans ?_
    unfold entry
    rw [dif_pos (show v.val < 38016 by omega)]
  · rw [hB]
    refine (Cert.ReferenceIdeal.Value.logitsHi_apply _ _ _ r v).trans ?_
    unfold entry
    rw [dif_pos (show 19008 + v.val < 38016 by omega)]

/-- At the ideal instance the kernel and the reference, started from equal arguments, end with equal tokens, margins and
    largest logits, their arguments unchanged. -/
theorem algebraic : Cert.algebraic_KernelIdeal_ReferenceIdeal := by
  intro m g m' g' _ hargs
  have hl : ∀ c, Cert.ReferenceIdeal.Value.lo m' c = Cert.ReferenceIdeal.Value.logitsLo (argX m c) (argP m c) (argS m c) := fun c => by
    delta Cert.ReferenceIdeal.Value.lo
    rw [(hargs c).1, (hargs c).2.1, (hargs c).2.2]
  have hh : ∀ c, Cert.ReferenceIdeal.Value.hi m' c = Cert.ReferenceIdeal.Value.logitsHi (argX m c) (argP m c) (argS m c) := fun c => by
    delta Cert.ReferenceIdeal.Value.hi
    rw [(hargs c).1, (hargs c).2.1, (hargs c).2.2]
  exact ⟨fun c => Cert.ReferenceIdeal.Value.outToken (Cert.ReferenceIdeal.Value.lo m' c) (Cert.ReferenceIdeal.Value.hi m' c),
    fun c => Cert.ReferenceIdeal.Value.outMargin (Cert.ReferenceIdeal.Value.lo m' c) (Cert.ReferenceIdeal.Value.hi m' c),
    fun c => Cert.ReferenceIdeal.Value.outTop (Cert.ReferenceIdeal.Value.lo m' c) (Cert.ReferenceIdeal.Value.hi m' c),
    run_columns g (planK m) _ _ _ (fun c s h r => results_agree m c s h r _ _ _ (reference_is m c _ _ (hl c) (hh c) r)),
    Cert.ReferenceIdeal.Value.run m' g'⟩

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.FrameK
public import proofs.«01_k».proof.Proof.RefRun
public import proofs.«01_k».proof.Proof.Same
public import proofs.«01_k».proof.Proof.Alg
public import Idealize.ShloMosaic.Adequacy
public import Idealize.ShloMosaic.Init

@[expose] public section

noncomputable section

namespace Cert.Proof

open Idealize.ShloMosaic Idealize.SL.Sem

/-- The kernel at its own floats terminates, leaves its arguments and every counter as they were: it is the same program
    as the idealized one, whose frame is proved for any floats. -/
theorem frame_kernel : Cert.quiescent_Kernel := fun m ρ _ => by
  rw [main_same, defs_same]
  exact Cert.KernelIdeal.Gen.frame (F := Bits) m ρ

/-- The kernel at the ideal instance terminates, leaves its arguments and every counter as they were. -/
theorem frame_ideal : Cert.quiescent_KernelIdeal := fun m ρ _ => Cert.KernelIdeal.Gen.frame m ρ

/-- The reference terminates, leaves its arguments as they were; it declares no semaphore. -/
theorem frame_ref : Cert.quiescent_ReferenceIdeal := fun m ρ _ =>
  (θ_run _ _ _).mono (fun r h => ⟨fun c => (h c).2.2.2, sem_eq_zero_of_no_sems (by decide) r.2⟩) (Cert.ReferenceIdeal.Value.run m ρ)

/-- Everything the certificate claims. -/
theorem claim : Cert.Claim :=
  ⟨Cert.Kernel.Gen.facts, Cert.KernelIdeal.Gen.facts, Cert.ReferenceIdeal.Gen.facts, frame_kernel, frame_ideal, frame_ref, trivial, algebraic⟩

end Cert.Proof

end
